-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v40) = v0 c
          ∧ r.2.mem ((c.tc : Thread Cert.Reference12Ideal.nD Cert.Reference12Ideal.τ).loc Cert.Reference12Ideal.main_v37) = v1 c
          ∧ r.2.mem ((c.tc : Thread Cert.Reference12Ideal.nD Cert.Reference12Ideal.τ).loc Cert.Reference12Ideal.main_v34) = v2 c
          ∧ r.2.mem ((c.tc : Thread Cert.Reference12Ideal.nD Cert.Reference12Ideal.τ).loc Cert.Reference12Ideal.main_v43) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)) (v4 : (c : Dev Cert.Kernel14Ideal.nD) → Buf (Elt Ideal) ((c.tc : Thread Cert.Kernel14Ideal.nD Cert.Kernel14Ideal.τ).loc Cert.Kernel14Ideal.main_v0_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_v0_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v46) = v2 c
          ∧ r.2.mem ((c.tc : Thread Cert.Reference14Ideal.nD Cert.Reference14Ideal.τ).loc Cert.Reference14Ideal.main_v41) = v3 c
          ∧ r.2.mem ((c.tc : Thread Cert.Reference14Ideal.nD Cert.Reference14Ideal.τ).loc Cert.Reference14Ideal.main_v59) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel13 : Cert.Kernel13.Facts) (hKernel13Ideal : Cert.Kernel13Ideal.Facts) (hReference13Ideal : Cert.Reference13Ideal.Facts) (hKernel12 : Cert.Kernel12.Facts) (hKernel12Ideal : Cert.Kernel12Ideal.Facts) (hReference12Ideal : Cert.Reference12Ideal.Facts) (hKernel14 : Cert.Kernel14.Facts) (hKernel14Ideal : Cert.Kernel14Ideal.Facts) (hReference14Ideal : Cert.Reference14Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel8_Kernel8Ideal
    ∧ algebraic_Kernel8Ideal_Reference8Ideal (hKernel8Ideal := hKernel8Ideal) (hReference8Ideal := hReference8Ideal)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel13_Kernel13Ideal
    ∧ algebraic_Kernel13Ideal_Reference13Ideal (hKernel13Ideal := hKernel13Ideal) (hReference13Ideal := hReference13Ideal)
    ∧ preserves_Kernel12_Kernel12Ideal
    ∧ algebraic_Kernel12Ideal_Reference12Ideal (hKernel12Ideal := hKernel12Ideal) (hReference12Ideal := hReference12Ideal)
    ∧ preserves_Kernel14_Kernel14Ideal
    ∧ algebraic_Kernel14Ideal_Reference14Ideal (hKernel14Ideal := hKernel14Ideal) (hReference14Ideal := hReference14Ideal)
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S8192x1024 1 × IVec S2816x1024 1 × IVec S8192x2816 1 × IVec S8192x2816 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S8192x2816 .f32 := (extf .f32 · bitsLt_bf16_f32) main_arg2
  let main_v9 : FVec F S8192x2816 .f32 := Host.absf main_v8
  let main_cst_1 : FVec F S_ .f32 := constant S_ .f32 0x7F800000#32
  let main_v10 : FVec F S8192x2816 .f32 := broadcastInDim S8192x2816 ![] bcast_S_S8192x2816 main_cst_1
  let main_v11 : IVec S8192x2816 1 := cmpf .olt main_v9 main_v10
  let main_v12 : FVec F S8192x2816 .f32 := (extf .f32 · bitsLt_bf16_f32) main_arg3
  let main_v13 : FVec F S8192x2816 .f32 := Host.absf main_v12
  let main_cst_2 : FVec F S_ .f32 := constant S_ .f32 0x7F800000#32
  let main_v14 : FVec F S8192x2816 .f32 := broadcastInDim S8192x2816 ![] bcast_S_S8192x2816 main_cst_2
  let main_v15 : IVec S8192x2816 1 := cmpf .olt main_v13 main_v14
  (main_v3, main_v7, main_v11, main_v15)
-- ==== Kernel.lean ====
abbrev S8192x9216 : Shape := ⟨2, ![8192, 9216]⟩
abbrev S8192x1024 : Shape := ⟨2, ![8192, 1024]⟩
abbrev S16x8192 : Shape := ⟨2, ![16, 8192]⟩
abbrev S_ : Shape := ⟨0, ![]⟩
abbrev S8192 : Shape := ⟨1, ![8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x16x512 : Shape := ⟨3, ![16, 16, 512]⟩
abbrev S16x16x1 : Shape := ⟨3, ![16, 16, 1]⟩
abbrev S8x2x8192 : Shape := ⟨3, ![8, 2, 8192]⟩
abbrev S512x128 : Shape := ⟨2, ![512, 128]⟩
abbrev S8192x128 : Shape := ⟨2, ![8192, 128]⟩
abbrev S2x512x1 : Shape := ⟨3, ![2, 512, 1]⟩
abbrev S1x2x8192 : Shape := ⟨3, ![1, 2, 8192]⟩
abbrev S1x2x512 : Shape := ⟨3, ![1, 2, 512]⟩
abbrev S512x512 : Shape := ⟨2, ![512, 512]⟩
abbrev S1x2x128 : Shape := ⟨3, ![1, 2, 128]⟩
abbrev S2x128 : Shape := ⟨2, ![2, 128]⟩
abbrev S1x1 : Shape := ⟨2, ![1, 1]⟩
abbrev S1x512x1 : Shape := ⟨3, ![1, 512, 1]⟩
abbrev S512x1 : Shape := ⟨2, ![512, 1]⟩
abbrev S512 : Shape := ⟨1, ![512]⟩
abbrev S1024x128 : Shape := ⟨2, ![1024, 128]⟩
abbrev S1x1x1024 : Shape := ⟨3, ![1, 1, 1024]⟩
abbrev S1x1024 : Shape := ⟨2, ![1, 1024]⟩
abbrev S512x1024 : Shape := ⟨2, ![512, 1024]⟩
abbrev S1024 : Shape := ⟨1, ![1024]⟩
abbrev S1x1x512 : Shape := ⟨3, ![1, 1, 512]⟩
abbrev S1x512 : Shape := ⟨2, ![1, 512]⟩
abbrev S128x512 : Shape := ⟨2, ![128, 512]⟩

abbrev nBuf : Space → Nat
  | .hbm => 117
  | .vmem => 26
  | .smem => 0
  | _ => 0

abbrev bufTy : (tb : Table) → Fin (tcTables nBuf tb) → BufTy
  | .hbm, ⟨0, _⟩ => ⟨S8192x9216, .bf16⟩
  | .hbm, ⟨1, _⟩ => ⟨S8192x1024, .bf16⟩
  | .hbm, ⟨2, _⟩ => ⟨S16x8192, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S_, .f32⟩
  | .hbm, ⟨7, _⟩ => ⟨S_, .f32⟩
  | .hbm, ⟨8, _⟩ => ⟨S16x8192, .f32⟩
  | .hbm, ⟨9, _⟩ => ⟨S_, .f32⟩
  | .hbm, ⟨10, _⟩ => ⟨S_, .f32⟩
  | .hbm, ⟨11, _⟩ => ⟨S16x8192, .f32⟩
  | .hbm, ⟨12, _⟩ => ⟨S8192, .i32⟩
  | .hbm, ⟨13, _⟩ => ⟨S8192x1024, .f32⟩
  | .hbm, ⟨14, _⟩ => ⟨S8192x16x64, .f32⟩
  | .hbm, ⟨15, _⟩ => ⟨S16x8192x64, .f32⟩
  | .hbm, ⟨16, _⟩ => ⟨S8192x1024, .f32⟩
  | .hbm, ⟨17, _⟩ => ⟨S8192x16x64, .f32⟩
  | .hbm, ⟨18, _⟩ => ⟨S16x8192x64, .f32⟩
  | .hbm, ⟨19, _⟩ => ⟨S16x8192x8192, .f32⟩
  | .hbm, ⟨20, _⟩ => ⟨S_, .f32⟩
  | .hbm, ⟨21, _⟩ => ⟨S16x8192x8192, .f32⟩
  | .hbm, ⟨22, _⟩ => ⟨S16x8192x8192, .f32⟩
  | .hbm, ⟨23, _⟩ => ⟨S16x8192x1, .f32⟩
  | .hbm, ⟨24, _⟩ => ⟨S16x1x8192, .f32⟩
  | .hbm, ⟨25, _⟩ => ⟨S16x8192x8192, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S1x8192, .i32⟩
  | .hbm, ⟨30, _⟩ => ⟨S8192x1, .i32⟩
  | .hbm, ⟨31, _⟩ => ⟨S8192x8192, .i32⟩
  | .hbm, ⟨32, _⟩ => ⟨S8192x8192, .i32⟩
  | .hbm, ⟨33, _⟩ => ⟨S8192x8192, .i1⟩
  | .hbm, ⟨34, _⟩ => ⟨S_, .f32⟩
  | .hbm, ⟨35, _⟩ => ⟨S_, .f32⟩
  | .hbm, ⟨36, _⟩ => ⟨S16x8192x8192, .i1⟩
  | .hbm, ⟨37, _⟩ => ⟨S16x8192x8192, .f32⟩
  | .hbm, ⟨38, _⟩ => ⟨S16x8192x8192, .f32⟩
  | .hbm, ⟨39, _⟩ => ⟨S_, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .f32⟩
  | .hbm, ⟨44, _⟩ => ⟨S16x8192x1, .f32⟩
  | .hbm, ⟨45, _⟩ => ⟨S16x8192x8192, .f32⟩
  | .hbm, ⟨46, _⟩ => ⟨S16x8192x8192, .f32⟩
  | .hbm, ⟨47, _⟩ => ⟨S16x8192x8192, .f32⟩
  | .hbm, ⟨48, _⟩ => ⟨S_, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S8192x1024, .f32⟩
  | .hbm, ⟨54, _⟩ => ⟨S8192x16x64, .f32⟩
  | .hbm, ⟨55, _⟩ => ⟨S16x8192x64, .f32⟩
  | .hbm, ⟨56, _⟩ => ⟨S16x8192x64, .f32⟩
  | .hbm, ⟨57, _⟩ => ⟨S8192x16x64, .f32⟩
  | .hbm, ⟨58, _⟩ => ⟨S8192x1024, .f32⟩
  | .hbm, ⟨59, _⟩ => ⟨S8192, .i32⟩
  | .hbm, ⟨60, _⟩ => ⟨S8192x1024, .f32⟩
  | .hbm, ⟨61, _⟩ => ⟨S8192x16x64, .f32⟩
  | .hbm, ⟨62, _⟩ => ⟨S16x8192x64, .f32⟩
  | .hbm, ⟨63, _⟩ => ⟨S8192x1024, .f32⟩
  | .hbm, ⟨64, _⟩ => ⟨S8192x16x64, .f32⟩
  | .hbm, ⟨65, _⟩ => ⟨S16x8192x64, .f32⟩
  | .hbm, ⟨66, _⟩ => ⟨S16x8192x8192, .f32⟩
  | .hbm, ⟨67, _⟩ => ⟨S_, .f32⟩
  | .hbm, ⟨68, _⟩ => ⟨S16x8192x8192, .f32⟩
  | .hbm, ⟨69, _⟩ => ⟨S16x8192x8192, .f32⟩
  | .hbm, ⟨70, _⟩ => ⟨S16x8192x1, .f32⟩
  | .hbm, ⟨71, _⟩ => ⟨S16x1x8192, .f32⟩
  | .hbm, ⟨72, _⟩ => ⟨S16x8192x8192, .f32⟩
  | .hbm, ⟨73, _⟩ => ⟨S16x8192x8192, .f32⟩
  | .hbm, ⟨74, _⟩ => ⟨S16x8192x8192, .f32⟩
  | .hbm, ⟨75, _⟩ => ⟨S16x8192x8192, .f32⟩
  | .hbm, ⟨76, _⟩ => ⟨S1x8192, .i32⟩
  | .hbm, ⟨77, _⟩ => ⟨S8192x1, .i32⟩
  | .hbm, ⟨78, _⟩ => ⟨S8192x8192, .i32⟩
  | .hbm, ⟨79, _⟩ => ⟨S8192x8192, .i32⟩
  | .hbm, ⟨80, _⟩ => ⟨S8192x8192, .i1⟩
  | .hbm, ⟨81, _⟩ => ⟨S_, .f32⟩
  | .hbm, ⟨82, _⟩ => ⟨S_, .f32⟩
  | .hbm, ⟨83, _⟩ => ⟨S16x8192x8192, .i1⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x1, .f32⟩
  | .hbm, ⟨89, _⟩ => ⟨S16x8192x8192, .f32⟩
  | .hbm, ⟨90, _⟩ => ⟨S16x8192x8192, .f32⟩
  | .hbm, ⟨91, _⟩ => ⟨S16x8192x8192, .f32⟩
  | .hbm, ⟨92, _⟩ => ⟨S_, .f32⟩
  | .hbm, ⟨93, _⟩ => ⟨S16x8192, .f32⟩
  | .hbm, ⟨94, _⟩ => ⟨S16x8192, .f32⟩
  | .hbm, ⟨95, _⟩ => ⟨S16x8192, .f32⟩
  | .hbm, ⟨96, _⟩ => ⟨S16x16x512, .f32⟩
  | .hbm, ⟨97, _⟩ => ⟨S16x16x512, .f32⟩
  | .hbm, ⟨98, _⟩ => ⟨S16x16x1, .f32⟩
  | .hbm, ⟨99, _⟩ => ⟨S16x16x512, .f32⟩
  | .hbm, ⟨100, _⟩ => ⟨S16x16x512, .f32⟩
  | .hbm, ⟨101, _⟩ => ⟨S16x16x512, .f32⟩
  | .hbm, ⟨102, _⟩ => ⟨S16x8192x1, .f32⟩
  | .hbm, ⟨103, _⟩ => ⟨S8x2x8192, .f32⟩
  | .hbm, ⟨104, _⟩ => ⟨S8192x1024, .bf16⟩
  | .hbm, ⟨105, _⟩ => ⟨S8192x1024, .bf16⟩
  | .hbm, ⟨106, _⟩ => ⟨S8192x1024, .bf16⟩
  | .hbm, ⟨107, _⟩ => ⟨S8x2x8192, .f32⟩
  | .hbm, ⟨108, _⟩ => ⟨S8x2x8192, .f32⟩
  | .hbm, ⟨109, _⟩ => ⟨S_, .f32⟩
  | .hbm, ⟨110, _⟩ => ⟨S_, .f32⟩
  | .hbm, ⟨111, _⟩ => ⟨S16x8192, .f32⟩
  | .hbm, ⟨112, _⟩ => ⟨S8x2x8192, .f32⟩
  | .hbm, ⟨113, _⟩ => ⟨S16x8192, .f32⟩
  | .hbm, ⟨114, _⟩ => ⟨S_, .f32⟩
  | .hbm, ⟨115, _⟩ => ⟨S_, .f32⟩
  | .hbm, ⟨116, _⟩ => ⟨S16x8192, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S2x512x1, .f32⟩
  | .local _ .vmem, ⟨11, _⟩ => ⟨S2x512x1, .f32⟩
  | .local _ .vmem, ⟨12, _⟩ => ⟨S1x2x8192, .f32⟩
  | .local _ .vmem, ⟨13, _⟩ => ⟨S1x2x8192, .f32⟩
  | .local _ .vmem, ⟨14, _⟩ => ⟨S512x128, .bf16⟩
  | .local _ .vmem, ⟨15, _⟩ => ⟨S512x128, .bf16⟩
  | .local _ .vmem, ⟨16, _⟩ => ⟨S8192x128, .bf16⟩
  | .local _ .vmem, ⟨17, _⟩ => ⟨S8192x128, .bf16⟩
  | .local _ .vmem, ⟨18, _⟩ => ⟨S8192x128, .bf16⟩
  | .local _ .vmem, ⟨19, _⟩ => ⟨S8192x128, .bf16⟩
  | .local _ .vmem, ⟨20, _⟩ => ⟨S1x2x8192, .f32⟩
  | .local _ .vmem, ⟨21, _⟩ => ⟨S1x2x8192, .f32⟩
  | .local _ .vmem, ⟨22, _⟩ => ⟨S1x2x512, .f32⟩
  | .local _ .vmem, ⟨23, _⟩ => ⟨S1x2x512, .f32⟩
  | .local _ .vmem, ⟨24, _⟩ => ⟨S8192x128, .f32⟩
  | .local _ .vmem, ⟨25, _⟩ => ⟨S8192x128, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_call1_call0_cst : Ref sig .tc := ⟨.hbm, 9, rfl⟩
abbrev main_call1_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_4 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82_0 : Ref sig .tc := ⟨.hbm, 104, rfl⟩
abbrev main_v82_1 : Ref sig .tc := ⟨.hbm, 105, rfl⟩
abbrev main_v82_2 : Ref sig .tc := ⟨.hbm, 106, rfl⟩
abbrev main_v82_3 : Ref sig .tc := ⟨.hbm, 107, rfl⟩
abbrev main_v82_4 : Ref sig .tc := ⟨.hbm, 108, rfl⟩
abbrev main_call4_call0_cst : Ref sig .tc := ⟨.hbm, 109, rfl⟩
abbrev main_call4_call0_v0 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call5_call0_cst : Ref sig .tc := ⟨.hbm, 114, rfl⟩
abbrev main_call5_call0_v0 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v72 : BitVec 32 := Scalar.muli arg1 c512_i32
  v72
def k0_off1 (i : grid0.Coords) : Fin 3 → Nat :=
  let c0_22 : Index := 0#32
  let c0_23 : Index := 0#32
  let arg1 : BitVec 32 := BitVec.ofNat 32 (i 1).val
  let c512_i32 : BitVec 32 := 512#32
  let v72 : BitVec 32 := Scalar.muli arg1 c512_i32
  let v73 : BitVec 32 := v72
  let v74 : Index := Scalar.indexCast v73
  ![0, 0, v74.toNat]
@[reducible] def k0_t1_loop (i : grid0.Coords) : Scf.Loop 32 :=
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let c1_i32_45 : BitVec 32 := 1#32
  ⟨c0_i32_43, v118, c1_i32_45⟩
def k0_mult2 (i : grid0.Coords) (k0_t1 : Fin (k0_t1_loop i).trips) : BitVec 32 :=
  let c0_i32_43 : BitVec 32 := 0#32
  let c1_i32_45 : BitVec 32 := 1#32
  let arg16 : BitVec 32 := Scf.iv c0_i32_43 c1_i32_45 k0_t1
  let c2_i32_116 : BitVec 32 := 2#32
  let v306 : BitVec 32 := Scalar.muli arg16 c2_i32_116
  let c512_i32_117 : BitVec 32 := 512#32
  let v307 : BitVec 32 := Scalar.muli v306 c512_i32_117
  v307
def k0_off2 (i : grid0.Coords) (k0_t1 : Fin (k0_t1_loop i).trips) : Fin 2 → Nat :=
  let c0_i32_43 : BitVec 32 := 0#32
  let c1_i32_45 : BitVec 32 := 1#32
  let arg16 : BitVec 32 := Scf.iv c0_i32_43 c1_i32_45 k0_t1
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v309 : Index := Scalar.indexCast v308
  let c0_118 : Index := 0#32
  ![v309.toNat, 0]
def k0_off3 (i : grid0.Coords) (k0_t1 : Fin (k0_t1_loop i).trips) : Fin 3 → Nat :=
  let c0_138 : Index := 0#32
  let c0_139 : Index := 0#32
  let c0_i32_43 : BitVec 32 := 0#32
  let c1_i32_45 : BitVec 32 := 1#32
  let arg16 : BitVec 32 := Scf.iv c0_i32_43 c1_i32_45 k0_t1
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v369 : Index := Scalar.indexCast v308
  ![0, 0, v369.toNat]
def k0_off4 (i : grid0.Coords) (k0_t1 : Fin (k0_t1_loop i).trips) : Fin 3 → Nat :=
  let c0_152 : Index := 0#32
  let c1_153 : Index := 1#32
  let c0_i32_43 : BitVec 32 := 0#32
  let c1_i32_45 : BitVec 32 := 1#32
  let arg16 : BitVec 32 := Scf.iv c0_i32_43 c1_i32_45 k0_t1
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v407 : Index := Scalar.indexCast v308
  ![0, 1, v407.toNat]
@[reducible] def k0_t2_loop (i : grid0.Coords) : Scf.Loop 32 :=
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let v115 : BitVec 32 := Scalar.addi c0_i32_43 v114
  let c1_i32_46 : BitVec 32 := 1#32
  ⟨v118, v115, c1_i32_46⟩
def k0_mult3 (i : grid0.Coords) (k0_t2 : Fin (k0_t2_loop i).trips) : BitVec 32 :=
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let c1_i32_46 : BitVec 32 := 1#32
  let arg16 : BitVec 32 := Scf.iv v118 c1_i32_46 k0_t2
  let c2_i32_116 : BitVec 32 := 2#32
  let v306 : BitVec 32 := Scalar.muli arg16 c2_i32_116
  let c512_i32_117 : BitVec 32 := 512#32
  let v307 : BitVec 32 := Scalar.muli v306 c512_i32_117
  v307
def k0_off5 (i : grid0.Coords) (k0_t2 : Fin (k0_t2_loop i).trips) : Fin 2 → Nat :=
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let c1_i32_46 : BitVec 32 := 1#32
  let arg16 : BitVec 32 := Scf.iv v118 c1_i32_46 k0_t2
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v309 : Index := Scalar.indexCast v308
  let c0_118 : Index := 0#32
  ![v309.toNat, 0]
def k0_off6 (i : grid0.Coords) (k0_t2 : Fin (k0_t2_loop i).trips) : Fin 3 → Nat :=
  let c0_138 : Index := 0#32
  let c0_139 : Index := 0#32
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let c1_i32_46 : BitVec 32 := 1#32
  let arg16 : BitVec 32 := Scf.iv v118 c1_i32_46 k0_t2
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v369 : Index := Scalar.indexCast v308
  ![0, 0, v369.toNat]
def k0_off7 (i : grid0.Coords) (k0_t2 : Fin (k0_t2_loop i).trips) : Fin 3 → Nat :=
  let c0_152 : Index := 0#32
  let c1_153 : Index := 1#32
  let c0_i32_43 : BitVec 32 := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let v114 : BitVec 32 := Scalar.subi v112 c0_i32_43
  let c1_i32_44 : BitVec 32 := 1#32
  let v116 : BitVec 32 := Scalar.divsi v114 c1_i32_44
  let v117 : BitVec 32 := Scalar.muli v116 c1_i32_44
  let v118 : BitVec 32 := Scalar.addi c0_i32_43 v117
  let c1_i32_46 : BitVec 32 := 1#32
  let arg16 : BitVec 32 := Scf.iv v118 c1_i32_46 k0_t2
  let c2_i32_116 : BitVec 32 := 2#32
  let v306 : BitVec 32 := Scalar.muli arg16 c2_i32_116
  let c512_i32_117 : BitVec 32 := 512#32
  let v307 : BitVec 32 := Scalar.muli v306 c512_i32_117
  let v308 : BitVec 32 := v307
  let v407 : Index := Scalar.indexCast v308
  ![0, 1, v407.toNat]
@[reducible] def k0_t3_loop (i : grid0.Coords) : Scf.Loop 32 :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let c1_i32_49 : BitVec 32 := 1#32
  ⟨v121, v126, c1_i32_49⟩
def k0_mult4 (i : grid0.Coords) (k0_t3 : Fin (k0_t3_loop i).trips) : BitVec 32 :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let c1_i32_49 : BitVec 32 := 1#32
  let arg16 : BitVec 32 := Scf.iv v121 c1_i32_49 k0_t3
  let c512_i32_116 : BitVec 32 := 512#32
  let v306 : BitVec 32 := Scalar.muli arg16 c512_i32_116
  v306
def k0_off8 (i : grid0.Coords) (k0_t3 : Fin (k0_t3_loop i).trips) : Fin 2 → Nat :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let c1_i32_49 : BitVec 32 := 1#32
  let arg16 : BitVec 32 := Scf.iv v121 c1_i32_49 k0_t3
  let c512_i32_116 : BitVec 32 := 512#32
  let v306 : BitVec 32 := Scalar.muli arg16 c512_i32_116
  let v307 : BitVec 32 := v306
  let v308 : Index := Scalar.indexCast v307
  let c0_117 : Index := 0#32
  ![v308.toNat, 0]
def k0_off9 (i : grid0.Coords) (k0_t3 : Fin (k0_t3_loop i).trips) : Fin 3 → Nat :=
  let c0_137 : Index := 0#32
  let c0_138 : Index := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let c1_i32_49 : BitVec 32 := 1#32
  let arg16 : BitVec 32 := Scf.iv v121 c1_i32_49 k0_t3
  let c512_i32_116 : BitVec 32 := 512#32
  let v306 : BitVec 32 := Scalar.muli arg16 c512_i32_116
  let v307 : BitVec 32 := v306
  let v368 : Index := Scalar.indexCast v307
  ![0, 0, v368.toNat]
def k0_off10 (i : grid0.Coords) (k0_t3 : Fin (k0_t3_loop i).trips) : Fin 3 → Nat :=
  let c0_151 : Index := 0#32
  let c1_152 : Index := 1#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let c1_i32_49 : BitVec 32 := 1#32
  let arg16 : BitVec 32 := Scf.iv v121 c1_i32_49 k0_t3
  let c512_i32_116 : BitVec 32 := 512#32
  let v306 : BitVec 32 := Scalar.muli arg16 c512_i32_116
  let v307 : BitVec 32 := v306
  let v406 : Index := Scalar.indexCast v307
  ![0, 1, v406.toNat]
@[reducible] def k0_t4_loop (i : grid0.Coords) : Scf.Loop 32 :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let v123 : BitVec 32 := Scalar.addi v121 v122
  let c1_i32_50 : BitVec 32 := 1#32
  ⟨v126, v123, c1_i32_50⟩
def k0_mult5 (i : grid0.Coords) (k0_t4 : Fin (k0_t4_loop i).trips) : BitVec 32 :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let c1_i32_50 : BitVec 32 := 1#32
  let arg16 : BitVec 32 := Scf.iv v126 c1_i32_50 k0_t4
  let c512_i32_116 : BitVec 32 := 512#32
  let v306 : BitVec 32 := Scalar.muli arg16 c512_i32_116
  v306
def k0_off11 (i : grid0.Coords) (k0_t4 : Fin (k0_t4_loop i).trips) : Fin 2 → Nat :=
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let c1_i32_50 : BitVec 32 := 1#32
  let arg16 : BitVec 32 := Scf.iv v126 c1_i32_50 k0_t4
  let c512_i32_116 : BitVec 32 := 512#32
  let v306 : BitVec 32 := Scalar.muli arg16 c512_i32_116
  let v307 : BitVec 32 := v306
  let v308 : Index := Scalar.indexCast v307
  let c0_117 : Index := 0#32
  ![v308.toNat, 0]
def k0_off12 (i : grid0.Coords) (k0_t4 : Fin (k0_t4_loop i).trips) : Fin 3 → Nat :=
  let c0_137 : Index := 0#32
  let c0_138 : Index := 0#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let c1_i32_50 : BitVec 32 := 1#32
  let arg16 : BitVec 32 := Scf.iv v126 c1_i32_50 k0_t4
  let c512_i32_116 : BitVec 32 := 512#32
  let v306 : BitVec 32 := Scalar.muli arg16 c512_i32_116
  let v307 : BitVec 32 := v306
  let v368 : Index := Scalar.indexCast v307
  ![0, 0, v368.toNat]
def k0_off13 (i : grid0.Coords) (k0_t4 : Fin (k0_t4_loop i).trips) : Fin 3 → Nat :=
  let c0_151 : Index := 0#32
  let c1_152 : Index := 1#32
  let arg1 : BitVec 32 := BitVec.ofNat 32 (i 1).val
  let c0_i32_36 : BitVec 32 := 0#32
  let v97 : BitVec 1 := Scalar.cmpi .sgt arg1 c0_i32_36
  let v98 : BitVec 32 := Scalar.extui v97
  let c0_i32_37 : BitVec 32 := 0#32
  let v99 : BitVec 1 := Scalar.cmpi .slt arg1 c0_i32_37
  let v100 : BitVec 32 := Scalar.extui v99
  let v101 : BitVec 32 := Scalar.subi v98 v100
  let c2_i32 : BitVec 32 := 2#32
  let c0_i32_38 : BitVec 32 := 0#32
  let v102 : BitVec 1 := Scalar.cmpi .sgt c2_i32 c0_i32_38
  let v103 : BitVec 32 := Scalar.extui v102
  let c0_i32_39 : BitVec 32 := 0#32
  let v104 : BitVec 1 := Scalar.cmpi .slt c2_i32 c0_i32_39
  let v105 : BitVec 32 := Scalar.extui v104
  let v106 : BitVec 32 := Scalar.subi v103 v105
  let v107 : BitVec 1 := Scalar.cmpi .ne v101 v106
  let v108 : BitVec 32 := Scalar.remsi arg1 c2_i32
  let c0_i32_40 : BitVec 32 := 0#32
  let v109 : BitVec 1 := Scalar.cmpi .ne v108 c0_i32_40
  let v110 : BitVec 1 := Scalar.andi v107 v109
  let v96 : BitVec 32 := Scalar.divsi arg1 c2_i32
  let c1_i32_41 : BitVec 32 := 1#32
  let v111 : BitVec 32 := Scalar.subi v96 c1_i32_41
  let v112 : BitVec 32 := Scalar.select v110 v111 v96
  let c2_i32_47 : BitVec 32 := 2#32
  let v121 : BitVec 32 := Scalar.muli v112 c2_i32_47
  let v122 : BitVec 32 := Scalar.subi arg1 v121
  let c1_i32_48 : BitVec 32 := 1#32
  let v124 : BitVec 32 := Scalar.divsi v122 c1_i32_48
  let v125 : BitVec 32 := Scalar.muli v124 c1_i32_48
  let v126 : BitVec 32 := Scalar.addi v121 v125
  let c1_i32_50 : BitVec 32 := 1#32
  let arg16 : BitVec 32 := Scf.iv v126 c1_i32_50 k0_t4
  let c512_i32_116 : BitVec 32 := 512#32
  let v306 : BitVec 32 := Scalar.muli arg16 c512_i32_116
  let v307 : BitVec 32 := v306
  let v406 : Index := Scalar.indexCast v307
  ![0, 1, v406.toNat]
def k0_mult6 (i : grid0.Coords) : BitVec 32 :=
  let arg1 : BitVec 32 := BitVec.ofNat 32 (i 1).val
  let c512_i32_51 : BitVec 32 := 512#32
  let v129 : BitVec 32 := Scalar.muli arg1 c512_i32_51
  v129
def k0_off14 (i : grid0.Coords) : Fin 2 → Nat :=
  let arg1 : BitVec 32 := BitVec.ofNat 32 (i 1).val
  let c512_i32_51 : BitVec 32 := 512#32
  let v129 : BitVec 32 := Scalar.muli arg1 c512_i32_51
  let v130 : BitVec 32 := v129
  let v131 : Index := Scalar.indexCast v130
  let c0_52 : Index := 0#32
  ![v131.toNat, 0]
def k0_off15 (i : grid0.Coords) : Fin 3 → Nat :=
  let c0_72 : Index := 0#32
  let c0_73 : Index := 0#32
  let arg1 : BitVec 32 := BitVec.ofNat 32 (i 1).val
  let c512_i32_51 : BitVec 32 := 512#32
  let v129 : BitVec 32 := Scalar.muli arg1 c512_i32_51
  let v130 : BitVec 32 := v129
  let v191 : Index := Scalar.indexCast v130
  ![0, 0, v191.toNat]
def k0_off16 (i : grid0.Coords) : Fin 3 → Nat :=
  let c0_87 : Index := 0#32
  let c1_88 : Index := 1#32
  let arg1 : BitVec 32 := BitVec.ofNat 32 (i 1).val
  let c512_i32_51 : BitVec 32 := 512#32
  let v129 : BitVec 32 := Scalar.muli arg1 c512_i32_51
  let v130 : BitVec 32 := v129
  let v231 : Index := Scalar.indexCast v130
  ![0, 1, v231.toNat]
def k0_cond2 (i : grid0.Coords) : BitVec 1 :=
  let arg1 : BitVec 32 := BitVec.ofNat 32 (i 1).val
  let c15_i32 : BitVec 32 := 15#32
  let v303 : BitVec 1 := Scalar.cmpi .eq arg1 c15_i32
  let v304 : BitVec 32 := Scalar.extui v303
  let c0_i32_115 : BitVec 32 := 0#32
  let v305 : BitVec 1 := Scalar.cmpi .ne v304 c0_i32_115
  v305

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x9216 : Shape := ⟨2, ![8192, 9216]⟩
abbrev S8192x1024 : Shape := ⟨2, ![8192, 1024]⟩
abbrev S16x8192 : Shape := ⟨2, ![16, 8192]⟩
abbrev S_ : Shape := ⟨0, ![]⟩
abbrev S8192 : Shape := ⟨1, ![8192]⟩
abbrev S8192x16x64 : Shape := ⟨3, ![8192, 16, 64]⟩
abbrev S16x8192x64 : Shape := ⟨3, ![16, 8192, 64]⟩
abbrev S16x8192x8192 : Shape := ⟨3, ![16, 8192, 8192]⟩
abbrev S16x8192x1 : Shape := ⟨3, ![16, 8192, 1]⟩
abbrev S16x1x8192 : Shape := ⟨3, ![16, 1, 8192]⟩
abbrev S1x8192 : Shape := ⟨2, ![1, 8192]⟩
abbrev S8192x1 : Shape := ⟨2, ![8192, 1]⟩
abbrev S8192x8192 : Shape := ⟨2, ![8192, 8192]⟩
abbrev S16x64x8192 : Shape := ⟨3, ![16, 64, 8192]⟩

abbrev nBuf : Space → Nat
  | .hbm => 134
  | .vmem => 0
  | .smem => 0
  | _ => 0

abbrev hbmTy0_0 (i : Nat) : BufTy := match i % 128 with
  | 0 => ⟨S8192x9216, .bf16⟩
  | 1 => ⟨S8192x1024, .bf16⟩
  | 2 => ⟨S16x8192, .f32⟩
  | 3 => ⟨S8192x1024, .bf16⟩
  | 4 => ⟨S8192x1024, .bf16⟩
  | 5 => ⟨S8192x1024, .bf16⟩
  | 6 => ⟨S_, .f32⟩
  | 7 => ⟨S_, .f32⟩
  | 8 => ⟨S16x8192, .f32⟩
  | 9 => ⟨S8192, .i32⟩
  | 10 => ⟨S8192x1024, .f32⟩
  | 11 => ⟨S8192x16x64, .f32⟩
  | 12 => ⟨S16x8192x64, .f32⟩
  | 13 => ⟨S8192x1024, .f32⟩
  | 14 => ⟨S8192x16x64, .f32⟩
  | 15 => ⟨S16x8192x64, .f32⟩
  | 16 => ⟨S16x8192x8192, .f32⟩
  | 17 => ⟨S_, .f32⟩
  | 18 => ⟨S16x8192x8192, .f32⟩
  | 19 => ⟨S16x8192x8192, .f32⟩
  | 20 => ⟨S16x8192x1, .f32⟩
  | 21 => ⟨S16x1x8192, .f32⟩
  | 22 => ⟨S16x8192x8192, .f32⟩
  | 23 => ⟨S16x8192x8192, .f32⟩
  | 24 => ⟨S16x8192x8192, .f32⟩
  | 25 => ⟨S16x8192x8192, .f32⟩
  | 26 => ⟨S1x8192, .i32⟩
  | 27 => ⟨S8192x1, .i32⟩
  | 28 => ⟨S8192x8192, .i32⟩
  | 29 => ⟨S8192x8192, .i32⟩
  | 30 => ⟨S8192x8192, .i1⟩
  | 31 => ⟨S_, .f32⟩
  | 32 => ⟨S_, .f32⟩
  | 33 => ⟨S16x8192x8192, .i1⟩
  | 34 => ⟨S16x8192x8192, .f32⟩
  | 35 => ⟨S16x8192x8192, .f32⟩
  | 36 => ⟨S_, .f32⟩
  | 37 => ⟨S16x8192x8192, .f32⟩
  | 38 => ⟨S_, .f32⟩
  | 39 => ⟨S16x8192, .f32⟩
  | 40 => ⟨S16x8192x1, .f32⟩
  | 41 => ⟨S16x8192x8192, .f32⟩
  | 42 => ⟨S16x8192x8192, .i1⟩
  | 43 => ⟨S16x8192x8192, .f32⟩
  | 44 => ⟨S_, .f32⟩
  | 45 => ⟨S16x8192, .f32⟩
  | 46 => ⟨S_, .f32⟩
  | 47 => ⟨S16x8192, .f32⟩
  | 48 => ⟨S16x8192, .f32⟩
  | 49 => ⟨S_, .f32⟩
  | 50 => ⟨S16x8192, .f32⟩
  | 51 => ⟨S16x8192, .i1⟩
  | 52 => ⟨S_, .f32⟩
  | 53 => ⟨S16x8192, .f32⟩
  | 54 => ⟨S16x8192, .i1⟩
  | 55 => ⟨S_, .f32⟩
  | 56 => ⟨S16x8192, .f32⟩
  | 57 => ⟨S_, .f32⟩
  | 58 => ⟨S16x8192, .f32⟩
  | 59 => ⟨S_, .f32⟩
  | 60 => ⟨S16x8192, .f32⟩
  | 61 => ⟨S16x8192, .f32⟩
  | 62 => ⟨S16x8192, .f32⟩
  | 63 => ⟨S16x8192x1, .f32⟩
  | 64 => ⟨S16x8192x8192, .f32⟩
  | 65 => ⟨S16x8192x8192, .f32⟩
  | 66 => ⟨S16x8192x8192, .f32⟩
  | 67 => ⟨S_, .f32⟩
  | 68 => ⟨S16x8192, .f32⟩
  | 69 => ⟨S16x8192x1, .f32⟩
  | 70 => ⟨S16x8192x8192, .f32⟩
  | 71 => ⟨S16x8192x8192, .f32⟩
  | 72 => ⟨S16x8192x1, .f32⟩
  | 73 => ⟨S_, .f32⟩
  | 74 => ⟨S16x8192x1, .f32⟩
  | 75 => ⟨S16x8192x1, .f32⟩
  | 76 => ⟨S8192x1024, .f32⟩
  | 77 => ⟨S8192x16x64, .f32⟩
  | 78 => ⟨S16x8192x64, .f32⟩
  | 79 => ⟨S16x8192x64, .f32⟩
  | 80 => ⟨S8192x16x64, .f32⟩
  | 81 => ⟨S8192x1024, .f32⟩
  | 82 => ⟨S8192x1024, .f32⟩
  | 83 => ⟨S8192x16x64, .f32⟩
  | 84 => ⟨S16x8192x64, .f32⟩
  | 85 => ⟨S16x64x8192, .f32⟩
  | 86 => ⟨S16x8192x64, .f32⟩
  | 87 => ⟨S16x8192x8192, .f32⟩
  | 88 => ⟨S8192x16x64, .f32⟩
  | 89 => ⟨S8192x1024, .f32⟩
  | 90 => ⟨S8192x1024, .bf16⟩
  | 91 => ⟨S16x8192x8192, .f32⟩
  | 92 => ⟨S16x8192x8192, .f32⟩
  | 93 => ⟨S16x8192x8192, .f32⟩
  | 94 => ⟨S_, .f32⟩
  | 95 => ⟨S16x8192, .f32⟩
  | 96 => ⟨S16x8192x1, .f32⟩
  | 97 => ⟨S16x8192x1, .f32⟩
  | 98 => ⟨S16x8192x8192, .f32⟩
  | 99 => ⟨S16x8192x8192, .f32⟩
  | 100 => ⟨S_, .f32⟩
  | 101 => ⟨S16x8192, .f32⟩
  | 102 => ⟨S16x8192x8192, .f32⟩
  | 103 => ⟨S16x8192x8192, .f32⟩
  | 104 => ⟨S16x8192x8192, .f32⟩
  | 105 => ⟨S_, .f32⟩
  | 106 => ⟨S16x8192x8192, .f32⟩
  | 107 => ⟨S16x8192x8192, .f32⟩
  | 108 => ⟨S_, .f32⟩
  | 109 => ⟨S16x8192, .f32⟩
  | 110 => ⟨S16x8192x1, .f32⟩
  | 111 => ⟨S16x8192x8192, .f32⟩
  | 112 => ⟨S_, .f32⟩
  | 113 => ⟨S16x8192, .f32⟩
  | 114 => ⟨S16x1x8192, .f32⟩
  | 115 => ⟨S_, .f32⟩
  | 116 => ⟨S16x8192, .f32⟩
  | 117 => ⟨S_, .f32⟩
  | 118 => ⟨S16x8192, .f32⟩
  | 119 => ⟨S16x8192, .f32⟩
  | 120 => ⟨S_, .f32⟩
  | 121 => ⟨S16x8192x8192, .f32⟩
  | 122 => ⟨S16x8192x8192, .f32⟩
  | 123 => ⟨S16x8192x64, .f32⟩
  | 124 => ⟨S16x8192x64, .f32⟩
  | 125 => ⟨S8192x16x64, .f32⟩
  | 126 => ⟨S8192x1024, .f32⟩
  | 127 => ⟨S8192x1024, .bf16⟩
  | _ => ⟨S8192x9216, .bf16⟩

abbrev hbmTy0_1 (i : Nat) : BufTy := match i % 128 with
  | 0 => ⟨S8192x16x64, .f32⟩
  | 1 => ⟨S8192x1024, .f32⟩
  | 2 => ⟨S8192x1024, .bf16⟩
  | 3 => ⟨S_, .f32⟩
  | 4 => ⟨S_, .f32⟩
  | 5 => ⟨S16x8192, .f32⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call1_v0 : Ref sig .tc := ⟨.hbm, 32, rfl⟩
abbrev main_v25_1 : Ref sig .tc := ⟨.hbm, 33, rfl⟩
abbrev main_call1_v2 : Ref sig .tc := ⟨.hbm, 34, rfl⟩
abbrev main_v25_0 : Ref sig .tc := ⟨.hbm, 35, rfl⟩
abbrev main_call1_cst : Ref sig .tc := ⟨.hbm, 36, rfl⟩
abbrev main_v25_2 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call2_cst : Ref sig .tc := ⟨.hbm, 105, rfl⟩
abbrev main_call2_v0 : Ref sig .tc := ⟨.hbm, 106, rfl⟩
abbrev main_v81 : Ref sig .tc := ⟨.hbm, 107, rfl⟩
abbrev main_cst_13 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_v86 : Ref sig .tc := ⟨.hbm, 114, rfl⟩
abbrev main_cst_15 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_call3_call0_cst : Ref sig .tc := ⟨.hbm, 131, rfl⟩
abbrev main_call3_call0_v0 : Ref sig .tc := ⟨.hbm, 132, rfl⟩
abbrev main_v100 : Ref sig .tc := ⟨.hbm, 133, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S8192x5632 : Shape := ⟨2, ![8192, 5632]⟩
abbrev S512x1024 : Shape := ⟨2, ![512, 1024]⟩
abbrev S512x2816 : Shape := ⟨2, ![512, 2816]⟩
abbrev S512x5632 : Shape := ⟨2, ![512, 5632]⟩
abbrev S1408x1024 : Shape := ⟨2, ![1408, 1024]⟩
abbrev S512x1408 : Shape := ⟨2, ![512, 1408]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S8192x5632 : Shape := ⟨2, ![8192, 5632]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S2816x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .bf16⟩
  | .hbm, ⟨32, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel3.lean ====
abbrev S8192x5632 : Shape := ⟨2, ![8192, 5632]⟩
abbrev S5632x1024 : Shape := ⟨2, ![5632, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S_, .f32⟩
  | .hbm, ⟨3, _⟩ => ⟨S8192x1024, .f32⟩
  | .hbm, ⟨4, _⟩ => ⟨S5632x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .bf16⟩
  | .hbm, ⟨3, _⟩ => ⟨S5632x1024, .bf16⟩
  | .hbm, ⟨4, _⟩ => ⟨S8192x1024, .f32⟩
  | .hbm, ⟨5, _⟩ => ⟨S5632x1024, .f32⟩
  | .hbm, ⟨6, _⟩ => ⟨S1024x5632, .f32⟩
  | .hbm, ⟨7, _⟩ => ⟨S8192x5632, .f32⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S5632x1024, .f32⟩
  | .hbm, ⟨12, _⟩ => ⟨S5632x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .bf16⟩
  | .hbm, ⟨3, _⟩ => ⟨S2816x1024, .bf16⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .bf16⟩
  | .hbm, ⟨3, _⟩ => ⟨S1024x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .bf16⟩
  | .hbm, ⟨3, _⟩ => ⟨S8192x1024, .bf16⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x2048 : Shape := ⟨2, ![8192, 2048]⟩
abbrev S8192x3072 : Shape := ⟨2, ![8192, 3072]⟩
abbrev S9216x1024 : Shape := ⟨2, ![9216, 1024]⟩
abbrev S1024x1024 : Shape := ⟨2, ![1024, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S8192x1024, .bf16⟩
  | .hbm, ⟨5, _⟩ => ⟨S8192x3072, .bf16⟩
  | .hbm, ⟨6, _⟩ => ⟨S9216x1024, .bf16⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 9], ![false, false]⟩

def k0_cond19 (i : grid0.Coords) : BitVec 1 :=
  let arg1 : BitVec 32 := BitVec.ofNat 32 (i 1).val
  let c8_i32 : BitVec 32 := 8#32
  let v30 : BitVec 1 := Scalar.cmpi .eq arg1 c8_i32
  let v31 : BitVec 32 := Scalar.extui v30
  let c0_i32_11 : BitVec 32 := 0#32
  let v32 : BitVec 1 := Scalar.cmpi .ne v31 c0_i32_11
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg1 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference7Ideal.lean ====
abbrev S8192x1024 : Shape := ⟨2, ![8192, 1024]⟩
abbrev S8192x2048 : Shape := ⟨2, ![8192, 2048]⟩
abbrev S8192x3072 : Shape := ⟨2, ![8192, 3072]⟩
abbrev S9216x1024 : Shape := ⟨2, ![9216, 1024]⟩
abbrev S_ : Shape := ⟨0, ![]⟩
abbrev S8192x9216 : Shape := ⟨2, ![8192, 9216]⟩
abbrev S1024x9216 : Shape := ⟨2, ![1024, 9216]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x2048, .bf16⟩
  | .hbm, ⟨4, _⟩ => ⟨S8192x1024, .bf16⟩
  | .hbm, ⟨5, _⟩ => ⟨S8192x3072, .bf16⟩
  | .hbm, ⟨6, _⟩ => ⟨S9216x1024, .bf16⟩
  | .hbm, ⟨7, _⟩ => ⟨S_, .f32⟩
  | .hbm, ⟨8, _⟩ => ⟨S8192x1024, .f32⟩
  | .hbm, ⟨9, _⟩ => ⟨S8192x9216, .bf16⟩
  | .hbm, ⟨10, _⟩ => ⟨S9216x1024, .f32⟩
  | .hbm, ⟨11, _⟩ => ⟨S1024x9216, .f32⟩
  | .hbm, ⟨12, _⟩ => ⟨S8192x9216, .f32⟩
  | .hbm, ⟨13, _⟩ => ⟨S8192x9216, .f32⟩
  | .hbm, ⟨14, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩

abbrev nD : Nat := 1
abbrev τ : Topo := Topo.v7x

variable {F : FTy → Type} [FloatOps F]
-- ==== Kernel9.lean ====
abbrev S8192x1024 : Shape := ⟨2, ![8192, 1024]⟩
abbrev S9216x1024 : Shape := ⟨2, ![9216, 1024]⟩
abbrev S8192x9216 : Shape := ⟨2, ![8192, 9216]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S9216x1024, .bf16⟩
  | .hbm, ⟨2, _⟩ => ⟨S8192x9216, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S9216x1024 : Shape := ⟨2, ![9216, 1024]⟩
abbrev S1024x9216 : Shape := ⟨2, ![1024, 9216]⟩
abbrev S8192x9216 : Shape := ⟨2, ![8192, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S9216x1024, .bf16⟩
  | .hbm, ⟨2, _⟩ => ⟨S8192x1024, .f32⟩
  | .hbm, ⟨3, _⟩ => ⟨S9216x1024, .f32⟩
  | .hbm, ⟨4, _⟩ => ⟨S1024x9216, .f32⟩
  | .hbm, ⟨5, _⟩ => ⟨S8192x9216, .f32⟩
  | .hbm, ⟨6, _⟩ => ⟨S8192x9216, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x1024 : Shape := ⟨2, ![8192, 1024]⟩
abbrev S5632x1024 : Shape := ⟨2, ![5632, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference13Ideal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S8192x2816, .bf16⟩
  | .hbm, ⟨9, _⟩ => ⟨S8192x2816, .bf16⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S8192x9216 : Shape := ⟨2, ![8192, 9216]⟩
abbrev S3x8192x1024 : Shape := ⟨3, ![3, 8192, 1024]⟩
abbrev S8192x3072 : Shape := ⟨2, ![8192, 3072]⟩
abbrev S256x1024 : Shape := ⟨2, ![256, 1024]⟩
abbrev S3x256x1024 : Shape := ⟨3, ![3, 256, 1024]⟩
abbrev S256x3072 : Shape := ⟨2, ![256, 3072]⟩
abbrev S1x256x1024 : Shape := ⟨3, ![1, 256, 1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x9216, .bf16⟩
  | .hbm, ⟨3, _⟩ => ⟨S3x8192x1024, .bf16⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8192x3072, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S3x256x1024, .bf16⟩
  | .local _ .vmem, ⟨10, _⟩ => ⟨S3x256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x3072, .bf16⟩
  | .local _ .vmem, ⟨18, _⟩ => ⟨S256x3072, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x1024 : Shape := ⟨2, ![8192, 1024]⟩
abbrev S1024x1024 : Shape := ⟨2, ![1024, 1024]⟩
abbrev S8192x9216 : Shape := ⟨2, ![8192, 9216]⟩
abbrev S3x8192x1024 : Shape := ⟨3, ![3, 8192, 1024]⟩
abbrev S8192x3072 : Shape := ⟨2, ![8192, 3072]⟩
abbrev S1x8192x1024 : Shape := ⟨3, ![1, 8192, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x9216, .bf16⟩
  | .hbm, ⟨3, _⟩ => ⟨S3x8192x1024, .bf16⟩
  | .hbm, ⟨4, _⟩ => ⟨S8192x3072, .bf16⟩
  | .hbm, ⟨5, _⟩ => ⟨S1x8192x1024, .bf16⟩
  | .hbm, ⟨6, _⟩ => ⟨S8192x1024, .bf16⟩
  | .hbm, ⟨7, _⟩ => ⟨S1x8192x1024, .bf16⟩
  | .hbm, ⟨8, _⟩ => ⟨S8192x1024, .bf16⟩
  | .hbm, ⟨9, _⟩ => ⟨S1x8192x1024, .bf16⟩
  | .hbm, ⟨10, _⟩ => ⟨S8192x1024, .bf16⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1024x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .bf16⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .f32⟩
  | .hbm, ⟨46, _⟩ => ⟨S8192x1024, .f32⟩
  | .hbm, ⟨47, _⟩ => ⟨S8192x1024, .bf16⟩
  | .hbm, ⟨48, _⟩ => ⟨S8192x3072, .f32⟩
  | .hbm, ⟨49, _⟩ => ⟨S8192x3072, .f32⟩
  | .hbm, ⟨50, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== Kernel14.lean ====
abbrev S8192x1024 : Shape := ⟨2, ![8192, 1024]⟩
abbrev S8192x9216 : Shape := ⟨2, ![8192, 9216]⟩
abbrev S1024x1024 : Shape := ⟨2, ![1024, 1024]⟩
abbrev S1x1024 : Shape := ⟨2, ![1, 1024]⟩
abbrev S3x8192x1024 : Shape := ⟨3, ![3, 8192, 1024]⟩
abbrev S256x1024 : Shape := ⟨2, ![256, 1024]⟩
abbrev S3x256x1024 : Shape := ⟨3, ![3, 256, 1024]⟩
abbrev S1x256x1024 : Shape := ⟨3, ![1, 256, 1024]⟩
abbrev S256 : Shape := ⟨1, ![256]⟩
abbrev S256x1 : Shape := ⟨2, ![256, 1]⟩

abbrev nBuf : Space → Nat
  | .hbm => 16
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x9216, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S3x8192x1024, .bf16⟩
  | .hbm, ⟨14, _⟩ => ⟨S8192x1024, .f32⟩
  | .hbm, ⟨15, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S3x256x1024, .bf16⟩
  | .local _ .vmem, ⟨25, _⟩ => ⟨S3x256x1024, .bf16⟩
  | .local _ .vmem, ⟨26, _⟩ => ⟨S256x1024, .f32⟩
  | .local _ .vmem, ⟨27, _⟩ => ⟨S256x1024, .f32⟩
  | .local _ .vmem, ⟨28, _⟩ => ⟨S256x1024, .bf16⟩
  | .local _ .vmem, ⟨29, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S3x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference14Ideal.lean ====
abbrev S8192x1024 : Shape := ⟨2, ![8192, 1024]⟩
abbrev S8192x9216 : Shape := ⟨2, ![8192, 9216]⟩
abbrev S1024x1024 : Shape := ⟨2, ![1024, 1024]⟩
abbrev S1x1024 : Shape := ⟨2, ![1, 1024]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x8192x1024 : Shape := ⟨3, ![1, 8192, 1024]⟩
abbrev S3x8192x1024 : Shape := ⟨3, ![3, 8192, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x9216, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S8192x3072, .bf16⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S_, .f32⟩
  | .hbm, ⟨19, _⟩ => ⟨S8192x3072, .f32⟩
  | .hbm, ⟨20, _⟩ => ⟨S8192x3072, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1024x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S8192x1024, .f32⟩
  | .hbm, ⟨30, _⟩ => ⟨S8192x1024, .f32⟩
  | .hbm, ⟨31, _⟩ => ⟨S1024x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S8192x1024, .f32⟩
  | .hbm, ⟨40, _⟩ => ⟨S1024x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x8192x1024, .f32⟩
  | .hbm, ⟨59, _⟩ => ⟨S1x8192x1024, .f32⟩
  | .hbm, ⟨60, _⟩ => ⟨S1x8192x1024, .f32⟩
  | .hbm, ⟨61, _⟩ => ⟨S3x8192x1024, .f32⟩
  | .hbm, ⟨62, _⟩ => ⟨S3x8192x1024, .bf16⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_cst_3 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_cst_5 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]
-- ==== Proof.KernelIdeal.Offsets.lean ====
/-
  Where the body's counted loops run and where their accesses lie, in closed form: the first loop goes over pairs of key
  blocks, the third over the block left over, the second and fourth never run.
-/
module

public import proofs.«01_k».proof.Proof.Gen.KernelIdeal.Frame
public import proofs.«01_k».proof.Proof.Gen.KernelIdeal.Loops

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

/-- The first loop's trips: pairs of key blocks before the query block. -/
theorem trips1 : ∀ i : grid0.Coords, (k0_t1_loop i).trips = (i 1).val / 2 := by decide +kernel
/-- The second loop never runs. -/
theorem trips2 : ∀ i : grid0.Coords, (k0_t2_loop i).trips = 0 := by decide +kernel
/-- The third loop's trips: the one block left over, if any. -/
theorem trips3 : ∀ i : grid0.Coords, (k0_t3_loop i).trips = (i 1).val % 2 := by decide +kernel
/-- The fourth loop never runs. -/
theorem trips4 : ∀ i : grid0.Coords, (k0_t4_loop i).trips = 0 := by decide +kernel

theorem k0_off2_eq : ∀ (i : grid0.Coords) (k : Fin (k0_t1_loop i).trips), k0_off2 i k = ![1024 * k.val, 0] := by decide +kernel
theorem k0_off3_eq : ∀ (i : grid0.Coords) (k : Fin (k0_t1_loop i).trips), k0_off3 i k = ![0, 0, 1024 * k.val] := by decide +kernel
theorem k0_off4_eq : ∀ (i : grid0.Coords) (k : Fin (k0_t1_loop i).trips), k0_off4 i k = ![0, 1, 1024 * k.val] := by decide +kernel
theorem k0_off8_eq : ∀ (i : grid0.Coords) (k : Fin (k0_t3_loop i).trips), k0_off8 i k = ![512 * ((i 1).val - 1), 0] := by decide +kernel
theorem k0_off9_eq : ∀ (i : grid0.Coords) (k : Fin (k0_t3_loop i).trips), k0_off9 i k = ![0, 0, 512 * ((i 1).val - 1)] := by decide +kernel
theorem k0_off10_eq : ∀ (i : grid0.Coords) (k : Fin (k0_t3_loop i).trips), k0_off10 i k = ![0, 1, 512 * ((i 1).val - 1)] := by decide +kernel

instance closedOff_off2 (i : grid0.Coords) (k : Fin (k0_t1_loop i).trips) : ClosedOff (k0_off2 i k) := ⟨_, k0_off2_eq i k⟩
instance closedOff_off3 (i : grid0.Coords) (k : Fin (k0_t1_loop i).trips) : ClosedOff (k0_off3 i k) := ⟨_, k0_off3_eq i k⟩
instance closedOff_off4 (i : grid0.Coords) (k : Fin (k0_t1_loop i).trips) : ClosedOff (k0_off4 i k) := ⟨_, k0_off4_eq i k⟩
instance closedOff_off8 (i : grid0.Coords) (k : Fin (k0_t3_loop i).trips) : ClosedOff (k0_off8 i k) := ⟨_, k0_off8_eq i k⟩
instance closedOff_off9 (i : grid0.Coords) (k : Fin (k0_t3_loop i).trips) : ClosedOff (k0_off9 i k) := ⟨_, k0_off9_eq i k⟩
instance closedOff_off10 (i : grid0.Coords) (k : Fin (k0_t3_loop i).trips) : ClosedOff (k0_off10 i k) := ⟨_, k0_off10_eq i k⟩

end Cert.Proof.KernelIdeal

end
-- ==== Proof.KernelIdeal.Trip.lean ====
/-
  The attention gradient's body at one grid point, as functions of arrays: what a trip of its two counted loops that run
  (two key blocks at a time, then the one that is left) makes of the carried sums and of the three accumulators.
-/
module

public import proofs.«01_k».proof.Proof.Gen.KernelIdeal.Frame
public import proofs.«01_k».proof.Proof.KernelIdeal.Offsets
public import Idealize.ShloMosaic.Lib.Pipeline.Value

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What a body's run knows before its loops: the three arrays it reads block by block and the values made of the query
    block. -/
structure Env (F : FTy → Type) where
  x3 : Vec F S8192x128 .bf16
  x4 : Vec F S8192x128 .bf16
  x8 : Vec F S1x2x8192 .f32
  v65 : FVec F S512x128 .bf16
  v67 : FVec F S512x128 .bf16
  v69 : FVec F S512x128 .bf16
  v71 : FVec F S512x128 .bf16
  v77 : FVec F S1x1 .f32
  v78 : FVec F S1x1 .f32
  v80 : FVec F S512x1 .f32
  v82 : FVec F S512x1 .f32
  v89 : FVec F S512x1 .f32
  v93 : FVec F S512x1 .f32

/-- What a trip changes: the carried gradient of the query block and its two row sums, and the accumulators of the decay,
    value and key gradients. -/
structure St (F : FTy → Type) where
  acc : FVec F S512x128 .f32 × FVec F S512x1 .f32 × FVec F S512x1 .f32
  dc : Vec F S1x2x8192 .f32
  dv : Vec F S8192x128 .f32
  dk : Vec F S8192x128 .f32

/-- One trip over two key blocks. -/
def trip1 (i : grid0.Coords) (e : Env F) (k : Fin (k0_t1_loop i).trips) (s : St F) : St F :=
  let R2 := Rect.unit (s := S8192x128) (k0_off2 i k) S1024x128.size (k0_off2_inb i k)
  let R3 := Rect.unit (s := S1x2x8192) (k0_off3 i k) S1x1x1024.size (k0_off3_inb i k)
  let R4 := Rect.unit (s := S1x2x8192) (k0_off4 i k) S1x1x1024.size (k0_off4_inb i k)
  let v309 : Vec F S1024x128 .bf16 := View.ld e.x3 R2
  let v311 : Vec F S1024x128 .bf16 := View.ld e.x4 R2
  let v339 : IVec S1024x128 32 := iota .tc S1024x128 32 [1] iota_S1024x128_d1_w32
  let v369 : Vec F S1x1x1024 .f32 := View.ld e.x8 R3
  let v390 : Vec F S1x1x1024 .f32 := View.ld s.dc R3
  let v365 := k0_pay8 v339 64#32 k0_pay6 k0_pay7
  let v382 := k0_pay10 e.v65 e.v69 e.v77 e.v80 e.v89 v309 v311 v369
  let v384 := k0_pay11 e.v65 e.v69 e.v77 e.v80 e.v89 v309 v311 v369
  let v386 := k0_pay12 e.v65 e.v69 e.v77 e.v80 v309 v369
  let v388 := k0_pay13 e.v65 e.v69 e.v77 e.v80 e.v89 v309 v311 v369
  let dc1 := R3.overlay s.dc (k0_pay16 (k0_pay14 v390) (k0_pay15 e.v65 e.v69 e.v77 e.v80 e.v89 v309 v311 v369))
  let v407 : Vec F S1x1x1024 .f32 := View.ld e.x8 R4
  let v428 : Vec F S1x1x1024 .f32 := View.ld s.dc R4
  let v405 := k0_pay18 s.acc.1 v309 k0_pay5 v384
  let v420 := k0_pay20 e.v67 e.v71 e.v78 e.v82 e.v93 v309 v311 v407
  let v422 := k0_pay21 e.v67 e.v71 e.v78 e.v82 e.v93 v309 v311 v407
  let v424 := k0_pay22 e.v67 e.v71 e.v78 e.v82 v309 v386 v407
  let v426 := k0_pay23 e.v67 e.v71 e.v78 e.v82 e.v93 v309 v311 v388 v407
  ⟨(k0_pay107 v309 v365 v405 v422, k0_pay17 s.acc.2.1 v382, k0_pay106 s.acc.2.2 v420),
    R4.overlay dc1 (k0_pay105 (k0_pay24 e.v67 e.v71 e.v78 e.v82 e.v93 v309 v311 v407 v428)),
    R2.overlay s.dv (k0_pay108 v424 (View.ld s.dv R2)), R2.overlay s.dk (k0_pay109 v426 (View.ld s.dk R2))⟩

/-- One trip over the key block left over. -/
def trip3 (i : grid0.Coords) (e : Env F) (k : Fin (k0_t3_loop i).trips) (s : St F) : St F :=
  let R2 := Rect.unit (s := S8192x128) (k0_off8 i k) S512x128.size (k0_off8_inb i k)
  let R3 := Rect.unit (s := S1x2x8192) (k0_off9 i k) S1x1x512.size (k0_off9_inb i k)
  let R4 := Rect.unit (s := S1x2x8192) (k0_off10 i k) S1x1x512.size (k0_off10_inb i k)
  let v308 : Vec F S512x128 .bf16 := View.ld e.x3 R2
  let v310 : Vec F S512x128 .bf16 := View.ld e.x4 R2
  let v338 : IVec S512x128 32 := iota .tc S512x128 32 [1] iota_S512x128_d1_w32
  let v368 : Vec F S1x1x512 .f32 := View.ld e.x8 R3
  let v389 : Vec F S1x1x512 .f32 := View.ld s.dc R3
  let v364 := k0_pay48 v338 64#32 k0_pay46 k0_pay47 1#1
  let v381 := k0_pay50 e.v65 e.v69 e.v77 e.v80 e.v89 v308 v310 v368
  let v383 := k0_pay51 e.v65 e.v69 e.v77 e.v80 e.v89 v308 v310 v368
  let v385 := k0_pay52 e.v65 e.v69 e.v77 e.v80 v308 v368
  let v387 := k0_pay53 e.v65 e.v69 e.v77 e.v80 e.v89 v308 v310 v368
  let dc1 := R3.overlay s.dc (k0_pay55 (k0_pay54 e.v65 e.v69 e.v77 e.v80 e.v89 v308 v310 v368 v389))
  let v406 : Vec F S1x1x512 .f32 := View.ld e.x8 R4
  let v427 : Vec F S1x1x512 .f32 := View.ld s.dc R4
  let v404 := k0_pay57 s.acc.1 v308 k0_pay45 v383
  let v419 := k0_pay59 e.v67 e.v71 e.v78 e.v82 e.v93 v308 v310 v406
  let v421 := k0_pay60 e.v67 e.v71 e.v78 e.v82 e.v93 v308 v310 v406
  let v423 := k0_pay61 e.v67 e.v71 e.v78 e.v82 v308 v385 v406
  let v425 := k0_pay62 e.v67 e.v71 e.v78 e.v82 e.v93 v308 v310 v387 v406
  ⟨(k0_pay116 v308 v364 v404 v421, k0_pay56 s.acc.2.1 v381, k0_pay115 s.acc.2.2 v419),
    R4.overlay dc1 (k0_pay63 e.v67 e.v71 e.v78 e.v82 e.v93 v308 v310 v406 v427),
    R2.overlay s.dv (k0_pay117 v423 (View.ld s.dv R2)), R2.overlay s.dk (k0_pay118 v425 (View.ld s.dk R2))⟩

/-- The first `n` trips of the first loop. -/
def st1 (i : grid0.Coords) (e : Env F) (s : St F) : ℕ → St F
  | 0 => s
  | n + 1 => if h : n < (k0_t1_loop i).trips then trip1 i e ⟨n, h⟩ (st1 i e s n) else st1 i e s n

/-- The first `n` trips of the second loop. -/
def st3 (i : grid0.Coords) (e : Env F) (s : St F) : ℕ → St F
  | 0 => s
  | n + 1 => if h : n < (k0_t3_loop i).trips then trip3 i e ⟨n, h⟩ (st3 i e s n) else st3 i e s n

theorem st1_succ (i : grid0.Coords) (e : Env F) (s : St F) (k : Fin (k0_t1_loop i).trips) :
    st1 i e s (k.val + 1) = trip1 i e k (st1 i e s k.val) := by
  conv_lhs => unfold st1
  exact dif_pos k.isLt

theorem st3_succ (i : grid0.Coords) (e : Env F) (s : St F) (k : Fin (k0_t3_loop i).trips) :
    st3 i e s (k.val + 1) = trip3 i e k (st3 i e s k.val) := by
  conv_lhs => unfold st3
  exact dif_pos k.isLt

/-- One store over contents leaves what they read, overlaid. -/
theorem writes_whole {s : Shape} {t : EltTy} {m : Memref sig .tc .vmem s t} (h : m.IsWhole)
    (f : m.view.ty.Contents (Elt F)) (r : Rect s) (w : r.shape.Idx → Elt F t) :
    m.view.writes (Elt F) f [⟨r, w⟩] = h.unread (r.overlay (m.view.read (Elt F) f) w) := by
  apply h.eq_unread
  funext y
  by_cases hy : y ∈ r.set
  · obtain ⟨x, rfl⟩ : ∃ x, r.emb x = y := r.exists_idx_of_mem hy
    rw [View.read_writes_cons_emb, Rect.overlay_emb]
  · rw [View.read_writes_cons_miss _ _ _ _ _ hy, View.writes_nil, Rect.overlay_of_not_mem _ _ _ hy]

/-- Two stores, the later first. -/
theorem writes_whole₂ {s : Shape} {t : EltTy} {m : Memref sig .tc .vmem s t} (h : m.IsWhole)
    (f : m.view.ty.Contents (Elt F)) (r r' : Rect s) (w : r.shape.Idx → Elt F t) (w' : r'.shape.Idx → Elt F t) :
    m.view.writes (Elt F) f [⟨r, w⟩, ⟨r', w'⟩] = h.unread (r.overlay (r'.overlay (m.view.read (Elt F) f) w') w) := by
  have e := writes_whole h (m.view.writes (Elt F) f [⟨r', w'⟩]) r w
  rw [writes_whole h f r' w', h.read_unread, ← writes_whole h f r' w', ← View.writes_append] at e
  exact e

/-- A store's contents by any value equal to the overlay. -/
theorem writes_whole' {s : Shape} {t : EltTy} {m : Memref sig .tc .vmem s t} (h : m.IsWhole)
    (f : m.view.ty.Contents (Elt F)) (r : Rect s) (w : r.shape.Idx → Elt F t) (Y : s.Idx → Elt F t)
    (e : r.overlay (m.view.read (Elt F) f) w = Y) : m.view.writes (Elt F) f [⟨r, w⟩] = h.unread Y := by
  rw [← e]; exact writes_whole h f r w

/-- Two stores' contents by any value equal to the overlays. -/
theorem writes_whole₂' {s : Shape} {t : EltTy} {m : Memref sig .tc .vmem s t} (h : m.IsWhole)
    (f : m.view.ty.Contents (Elt F)) (r r' : Rect s) (w : r.shape.Idx → Elt F t) (w' : r'.shape.Idx → Elt F t)
    (Y : s.Idx → Elt F t) (e : r.overlay (r'.overlay (m.view.read (Elt F) f) w') w = Y) :
    m.view.writes (Elt F) f [⟨r, w⟩, ⟨r', w'⟩] = h.unread Y := by
  rw [← e]; exact writes_whole₂ h f r r' w w'

end Cert.Proof.KernelIdeal

end
-- ==== Proof.KernelIdeal.Body.lean ====
/-
  One point of the attention gradient as a function of the blocks it reads and of the three accumulators.
-/
module

public import proofs.«01_k».proof.Proof.KernelIdeal.Trip

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
/-- The seven blocks a point reads. -/
structure Ins (F : FTy → Type) where
  x2 : Vec F S512x128 .bf16
  x3 : Vec F S8192x128 .bf16
  x4 : Vec F S8192x128 .bf16
  x5 : Vec F S512x128 .bf16
  x6 : Vec F S512x128 .f32
  x7 : Vec F S2x512x1 .f32
  x8 : Vec F S1x2x8192 .f32

/-- The three accumulators a point takes from the point before. -/
structure Pt (F : FTy → Type) where
  dc : Vec F S1x2x8192 .f32
  dv : Vec F S8192x128 .f32
  dk : Vec F S8192x128 .f32

/-- The accumulators after the reset that the first query block makes. -/
def start (i : grid0.Coords) (p : Pt F) : Pt F :=
  if (i 1).val = 0 then ⟨k0_pay85, k0_pay84, k0_pay83⟩ else p

/-- The values made of the query block before the loops. -/
def env (i : grid0.Coords) (x : Ins F) : Env F :=
  let v5 := k0_pay86 x.x2
  let v36 := k0_pay88
  let v37 : IVec S512x128 32 := iota .tc S512x128 32 [1] iota_S512x128_d1_w32
  let v75 : Vec F S1x2x128 .f32 := View.ld x.x8 (Rect.unit (s := S1x2x8192) (k0_off1 i) S1x2x128.size (k0_off1_inb i))
  let v79 : Vec F S1x512x1 .f32 := View.ld x.x7 (Rect.unit (s := S2x512x1) ![0, 0, 0] S1x512x1.size inb_S2x512x1_S1x512x1_0_0_0)
  let v81 : Vec F S1x512x1 .f32 := View.ld x.x7 (Rect.unit (s := S2x512x1) ![1, 0, 0] S1x512x1.size inb_S2x512x1_S1x512x1_1_0_0)
  let v63 := k0_pay90 v37 64#32 k0_pay89 0#32
  { x3 := x.x3, x4 := x.x4, x8 := x.x8
    v65 := k0_pay91 v5 v36
    v67 := k0_pay92 v5 v37 64#32 k0_pay89 0#32
    v69 := k0_pay93 x.x5 v36
    v71 := k0_pay94 x.x5 v37 64#32 k0_pay89 0#32
    v77 := k0_pay96 v75
    v78 := k0_pay97 v75
    v80 := k0_pay98 v79
    v82 := k0_pay99 v81
    v89 := k0_pay101 x.x5 v36 x.x6
    v93 := k0_pay102 x.x5 v63 x.x6 }

/-- What the loops leave. -/
def mid (i : grid0.Coords) (x : Ins F) (p : Pt F) : St F :=
  st3 i (env i x) (st1 i (env i x)
    ⟨(k0_pay104, k0_pay103, k0_pay103), (start i p).dc, (start i p).dv, (start i p).dk⟩ (k0_t1_loop i).trips) (k0_t3_loop i).trips

/-- The key and value blocks on the diagonal and the decay sums of the two heads there. -/
def kd (i : grid0.Coords) (e : Env F) : Vec F S512x128 .bf16 := View.ld e.x3 (Rect.unit (s := S8192x128) (k0_off14 i) S512x128.size (k0_off14_inb i))
/-- The value block on the diagonal. -/
def vd (i : grid0.Coords) (e : Env F) : Vec F S512x128 .bf16 := View.ld e.x4 (Rect.unit (s := S8192x128) (k0_off14 i) S512x128.size (k0_off14_inb i))
/-- The first head's decay sums on the diagonal. -/
def c0 (i : grid0.Coords) (e : Env F) : Vec F S1x1x512 .f32 := View.ld e.x8 (Rect.unit (s := S1x2x8192) (k0_off15 i) S1x1x512.size (k0_off15_inb i))
/-- The second head's decay sums on the diagonal. -/
def c1 (i : grid0.Coords) (e : Env F) : Vec F S1x1x512 .f32 := View.ld e.x8 (Rect.unit (s := S1x2x8192) (k0_off16 i) S1x1x512.size (k0_off16_inb i))

/-- The first head's gradient of the scores on the diagonal. -/
def ds0 (i : grid0.Coords) (e : Env F) : FVec F S512x512 .f32 := k0_pay129 k0_pay87 e.v65 e.v69 e.v77 e.v80 e.v89 (kd i e) (vd i e) (c0 i e)
/-- The same, cast. -/
def dsb0 (i : grid0.Coords) (e : Env F) : FVec F S512x512 .bf16 := k0_pay130 k0_pay87 e.v65 e.v69 e.v77 e.v80 e.v89 (kd i e) (vd i e) (c0 i e)
/-- The second head's gradient of the scores on the diagonal. -/
def ds1 (i : grid0.Coords) (e : Env F) : FVec F S512x512 .f32 := k0_pay136 k0_pay87 e.v67 e.v71 e.v78 e.v82 e.v93 (kd i e) (vd i e) (c1 i e)
/-- The same, cast. -/
def dsb1 (i : grid0.Coords) (e : Env F) : FVec F S512x512 .bf16 := k0_pay137 k0_pay87 e.v67 e.v71 e.v78 e.v82 e.v93 (kd i e) (vd i e) (c1 i e)
/-- The diagonal's part of the value gradient. -/
def dvd (i : grid0.Coords) (e : Env F) : FVec F S512x128 .f32 :=
  k0_pay138 k0_pay87 e.v67 e.v71 e.v78 e.v82 (kd i e) k0_pay126 (k0_pay131 k0_pay87 e.v65 e.v69 e.v77 e.v80 (kd i e) (c0 i e)) (c1 i e)
/-- The diagonal's part of the key gradient. -/
def dkd (i : grid0.Coords) (e : Env F) : FVec F S512x128 .f32 :=
  k0_pay139 k0_pay87 e.v65 e.v67 e.v71 e.v78 e.v82 e.v93 (kd i e) (vd i e) k0_pay127 (dsb0 i e) (c1 i e)

/-- The decay gradient after a point. -/
def endDc (i : grid0.Coords) (e : Env F) (s : St F) : Vec F S1x2x8192 .f32 :=
  let R1 := Rect.unit (s := S1x2x8192) (k0_off15 i) S1x1x512.size (k0_off15_inb i)
  let R2 := Rect.unit (s := S1x2x8192) (k0_off16 i) S1x1x512.size (k0_off16_inb i)
  let dc1 := R1.overlay s.dc (k0_pay132 (ds0 i e) (View.ld s.dc R1))
  R2.overlay dc1 (k0_pay140 (ds1 i e) (View.ld dc1 R2))

/-- The value gradient after a point. -/
def endDv (i : grid0.Coords) (e : Env F) (s : St F) : Vec F S8192x128 .f32 :=
  let R := Rect.unit (s := S8192x128) (k0_off14 i) S512x128.size (k0_off14_inb i)
  R.overlay s.dv (k0_pay142 (dvd i e) (View.ld s.dv R))

/-- The key gradient after a point. -/
def endDk (i : grid0.Coords) (e : Env F) (s : St F) : Vec F S8192x128 .f32 :=
  let R := Rect.unit (s := S8192x128) (k0_off14 i) S512x128.size (k0_off14_inb i)
  R.overlay s.dk (k0_pay143 (dkd i e) (View.ld s.dk R))

/-- The query gradient a point stores. -/
def endDq (i : grid0.Coords) (e : Env F) (s : St F) : Vec F S512x128 .bf16 :=
  k0_pay144 (kd i e) (k0_pay125 (iota .tc S512x128 32 [1] iota_S512x128_d1_w32) 64#32 k0_pay124 0#32)
    (k0_pay134 s.acc.1 (kd i e) k0_pay123 (dsb0 i e)) (dsb1 i e)

/-- The row sums a point stores, over any contents. -/
def endDcq (i : grid0.Coords) (e : Env F) (s : St F) (X : Vec F S1x2x512 .f32) : Vec F S1x2x512 .f32 :=
  (Rect.unit (s := S1x2x512) ![0, 1, 0] S1x1x512.size inb_S1x2x512_S1x1x512_0_1_0).overlay
    ((Rect.unit (s := S1x2x512) ![0, 0, 0] S1x1x512.size inb_S1x2x512_S1x1x512_0_0_0).overlay X
      (k0_pay1 (k0_pay145 (k0_pay133 s.acc.2.1 (ds0 i e)))))
    (k0_pay2 (k0_pay141 s.acc.2.2 (ds1 i e)))

theorem off2_zero : (![0, 0] : Fin 2 → ℕ) = fun _ => 0 := by decide
theorem off3_zero : (![0, 0, 0] : Fin 3 → ℕ) = fun _ => 0 := by decide

/-- A store over the whole leaves its payload. -/
theorem overlay_unit_zero {S : Shape} {α : Type} {off : Fin S.rank → ℕ} (h : off = fun _ => 0)
    (inb : ∀ a, off a + S.size a ≤ S.size a) (X w : S.Idx → α) : (Rect.unit off S.size inb).overlay X w = w := by
  subst h
  funext y
  have e : (Rect.whole S).emb y = y := Rect.emb_whole_apply S y
  have := (Rect.whole S).overlay_emb X w y
  rw [e] at this
  exact this

/-- When the reset is made. -/
theorem cond1_yes : ∀ i : grid0.Coords, (i 1).val = 0 →
    Scalar.cmpi .ne (Scalar.extui (Scalar.cmpi .eq (BitVec.ofNat 32 (i 1).val) 0#32) : BitVec 32) 0#32 = 1#1 := by decide +kernel

theorem cond1_no : ∀ i : grid0.Coords, (i 1).val ≠ 0 →
    ¬ Scalar.cmpi .ne (Scalar.extui (Scalar.cmpi .eq (BitVec.ofNat 32 (i 1).val) 0#32) : BitVec 32) 0#32 = 1#1 := by decide +kernel

end Cert.Proof.KernelIdeal

end
-- ==== Proof.KernelIdeal.Points.lean ====
/-
  The accumulators of the attention gradient point by point.
-/
module

public import proofs.«01_k».proof.Proof.KernelIdeal.Body
public import proofs.«01_k».proof.Proof.Gen.KernelIdeal.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The accumulators after a point, of those before it. -/
def ptStep (i : grid0.Coords) (x : Ins F) (p : Pt F) : Pt F :=
  ⟨endDc i (env i x) (mid i x p), endDv i (env i x) (mid i x p), endDk i (env i x) (mid i x p)⟩

/-- The first query block of a head pair takes nothing from the point before. -/
theorem mid_first (i : grid0.Coords) (x : Ins F) (p p' : Pt F) (h : (i 1).val = 0) : mid i x p = mid i x p' := by
  have e : start i p = start i p' := by unfold start; rw [if_pos h, if_pos h]
  unfold mid; rw [e]

theorem ptStep_first (i : grid0.Coords) (x : Ins F) (p p' : Pt F) (h : (i 1).val = 0) : ptStep i x p = ptStep i x p' := by
  unfold ptStep; rw [mid_first i x p p' h]

/-- The two rows of sums cover their block. -/
theorem endDcq_any (i : grid0.Coords) (e : Env F) (s : St F) (X X' : Vec F S1x2x512 .f32) :
    endDcq i e s X = endDcq i e s X' := by
  funext y
  unfold endDcq
  by_cases h1 : y ∈ (Rect.unit (s := S1x2x512) ![0, 1, 0] S1x1x512.size inb_S1x2x512_S1x1x512_0_1_0).set
  · rw [← Rect.map_emb_univ] at h1
    obtain ⟨z, -, rfl⟩ := Finset.mem_map.mp h1
    rw [Rect.overlay_emb, Rect.overlay_emb]
  · rw [Rect.overlay_of_not_mem _ _ _ h1, Rect.overlay_of_not_mem _ _ _ h1]
    by_cases h0 : y ∈ (Rect.unit (s := S1x2x512) ![0, 0, 0] S1x1x512.size inb_S1x2x512_S1x1x512_0_0_0).set
    · rw [← Rect.map_emb_univ] at h0
      obtain ⟨z, -, rfl⟩ := Finset.mem_map.mp h0
      rw [Rect.overlay_emb, Rect.overlay_emb]
    · exfalso
      rw [Rect.mem_set_unit] at h0 h1
      have b0 : (y 0).val < 1 := (y 0).isLt
      have b1 : (y 1).val < 2 := (y 1).isLt
      have b2 : (y 2).val < 512 := (y 2).isLt
      by_cases hy : (y 1).val = 0
      · refine h0 fun a => ?_
        fin_cases a
        · exact ⟨Nat.zero_le _, b0⟩
        · exact ⟨Nat.zero_le _, by change (y 1).val < 0 + 1; omega⟩
        · exact ⟨Nat.zero_le _, by change (y 2).val < 0 + 512; omega⟩
      · refine h1 fun a => ?_
        fin_cases a
        · exact ⟨Nat.zero_le _, b0⟩
        · exact ⟨by change 1 ≤ (y 1).val; omega, by change (y 1).val < 1 + 1; omega⟩
        · exact ⟨Nat.zero_le _, by change (y 2).val < 0 + 512; omega⟩

/-- A block of row sums with nothing in it yet. -/
def row0 : Vec F S1x2x512 .f32 :=
  (Memref.whole cc0_stg11_0 : Memref sig .tc .vmem S1x2x512 .f32).view.read (Elt F) (Memref.whole cc0_stg11_0 : Memref sig .tc .vmem S1x2x512 .f32).view.junk

variable (m : (ℓ : Loc nD τ sig) → Buf (Elt F) ℓ)

/-- The seven blocks point `t` reads. -/
def ins (c : Dev nD) (t : Fin cfg0.N) : Ins F :=
  ⟨iblk m c 0 t, iblk m c 1 t, iblk m c 2 t, iblk m c 3 t, iblk m c 4 t, iblk m c 5 t, iblk m c 6 t⟩

/-- Cleared accumulators. -/
def pt0 : Pt F := ⟨k0_pay85, k0_pay84, k0_pay83⟩

/-- The accumulators after point `n`. -/
def ptAt (c : Dev nD) : (n : ℕ) → n < cfg0.N → Pt F
  | 0, h => ptStep (grid0.coords ⟨0, h⟩) (ins m c ⟨0, h⟩) pt0
  | n + 1, h => ptStep (grid0.coords ⟨n + 1, h⟩) (ins m c ⟨n + 1, h⟩) (ptAt c n (Nat.lt_of_succ_lt h))

theorem coords1 (t : Fin cfg0.N) : (grid0.coords t 1).val = t.val % 16 := by
  have e : (grid0.coords t 1).val = t.val / 1 % 16 := Pipeline.Grid.coords_val t 1 (by decide) rfl
  rw [e, Nat.div_one]

theorem ptAt_first (c : Dev nD) (t : Fin cfg0.N) (h : t.val % 16 = 0) (p : Pt F) :
    ptAt m c t.val t.isLt = ptStep (grid0.coords t) (ins m c t) p := by
  obtain ⟨n, hn⟩ := t
  have h1 : (grid0.coords ⟨n, hn⟩ 1).val = 0 := (coords1 ⟨n, hn⟩).trans h
  cases n with
  | zero => exact ptStep_first _ _ _ _ h1
  | succ n => exact ptStep_first _ _ _ _ h1

theorem ptAt_next (c : Dev nD) (t : Fin cfg0.N) (h : t.val ≠ 0) :
    ptAt m c t.val t.isLt = ptStep (grid0.coords t) (ins m c t) (ptAt m c (t.val - 1) (Nat.lt_of_le_of_lt (Nat.sub_le _ _) t.isLt)) := by
  obtain ⟨n, hn⟩ := t
  cases n with
  | zero => exact absurd rfl h
  | succ n => rfl

/-- The state after the loops of point `t`. -/
def midAt (c : Dev nD) (t : Fin cfg0.N) : St F :=
  mid (grid0.coords t) (ins m c t) (if t.val = 0 then pt0 else ptAt m c (t.val - 1) (Nat.lt_of_le_of_lt (Nat.sub_le _ _) t.isLt))

theorem midAt_first (c : Dev nD) (t : Fin cfg0.N) (h : t.val % 16 = 0) (p : Pt F) :
    midAt m c t = mid (grid0.coords t) (ins m c t) p := mid_first _ _ _ _ ((coords1 t).trans h)

theorem midAt_next (c : Dev nD) (t : Fin cfg0.N) (h : t.val ≠ 0) :
    midAt m c t = mid (grid0.coords t) (ins m c t) (ptAt m c (t.val - 1) (Nat.lt_of_le_of_lt (Nat.sub_le _ _) t.isLt)) := by
  unfold midAt; rw [if_neg h]

theorem ptAt_mid (c : Dev nD) (t : Fin cfg0.N) :
    ptAt m c t.val t.isLt = ⟨endDc (grid0.coords t) (env (grid0.coords t) (ins m c t)) (midAt m c t),
      endDv (grid0.coords t) (env (grid0.coords t) (ins m c t)) (midAt m c t),
      endDk (grid0.coords t) (env (grid0.coords t) (ins m c t)) (midAt m c t)⟩ := by
  by_cases h : t.val = 0
  · rw [ptAt_first m c t (by rw [h]) pt0, midAt_first m c t (by rw [h]) pt0]; rfl
  · rw [ptAt_next m c t h, midAt_next m c t h]; rfl

end Cert.Proof.KernelIdeal

end
-- ==== Proof.KernelIdeal.Data.lean ====
/-
  The proof data of the attention gradient's pipeline.
-/
module

public import proofs.«01_k».proof.Proof.KernelIdeal.Points

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! Each window's current staging buffer at a point. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev ms0_5 (t : Fin cfg0.N) := win0_5.stage (cfg0.slots t 5)
abbrev hs0_5 (t : Fin cfg0.N) : (ms0_5 t).IsWhole := hstage0_5 ((cfg0.slots t 5).cast nbuf0_5)
abbrev ms0_6 (t : Fin cfg0.N) := win0_6.stage (cfg0.slots t 6)
abbrev hs0_6 (t : Fin cfg0.N) : (ms0_6 t).IsWhole := hstage0_6 ((cfg0.slots t 6).cast nbuf0_6)
abbrev ms0_7 (t : Fin cfg0.N) := win0_7.stage (cfg0.slots t 7)
abbrev hs0_7 (t : Fin cfg0.N) : (ms0_7 t).IsWhole := hstage0_7 ((cfg0.slots t 7).cast nbuf0_7)
abbrev ms0_8 (t : Fin cfg0.N) := win0_8.stage (cfg0.slots t 8)
abbrev hs0_8 (t : Fin cfg0.N) : (ms0_8 t).IsWhole := hstage0_8 ((cfg0.slots t 8).cast nbuf0_8)
abbrev ms0_9 (t : Fin cfg0.N) := win0_9.stage (cfg0.slots t 9)
abbrev hs0_9 (t : Fin cfg0.N) : (ms0_9 t).IsWhole := hstage0_9 ((cfg0.slots t 9).cast nbuf0_9)
abbrev ms0_10 (t : Fin cfg0.N) := win0_10.stage (cfg0.slots t 10)
abbrev hs0_10 (t : Fin cfg0.N) : (ms0_10 t).IsWhole := hstage0_10 ((cfg0.slots t 10).cast nbuf0_10)
abbrev ms0_11 (t : Fin cfg0.N) := win0_11.stage (cfg0.slots t 11)
abbrev hs0_11 (t : Fin cfg0.N) : (ms0_11 t).IsWhole := hstage0_11 ((cfg0.slots t 11).cast nbuf0_11)
/-- The key accumulator. -/
abbrev scM0_0 : Memref sig .tc .vmem S8192x128 .f32 := Memref.whole cc0_scratch0
/-- The value accumulator. -/
abbrev scM0_1 : Memref sig .tc .vmem S8192x128 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ)

/-- What is kept between points: the two scratch accumulators. -/
def PhiS (c : Dev nD) : (n : ℕ) → n ≤ cfg0.N → sProp 𝕄
  | 0, _ => Pipeline.ΦA spec0 c
  | n + 1, hn => iprop(iprop(owns (c : Thread nD τ) scM0_0 fullShare (ptAt m c n hn).dk ∗ owns (c : Thread nD τ) scM0_1 fullShare (ptAt m c n hn).dv) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (ptAt m c n hn).dk ∗ owns (c : Thread nD τ) scM0_1 fullShare (ptAt m c n hn).dv) ∗ (∃ r, prngReg c r)) := rfl

theorem PhiS_pos (c : Dev nD) (n : ℕ) (h : n ≤ cfg0.N) (hz : n ≠ 0) :
    PhiS m c n h = iprop(iprop(owns (c : Thread nD τ) scM0_0 fullShare (ptAt m c (n - 1) (by omega)).dk ∗ owns (c : Thread nD τ) scM0_1 fullShare (ptAt m c (n - 1) (by omega)).dv) ∗ (∃ r, prngReg c r)) := by
  cases n with
  | zero => exact absurd rfl hz
  | succ n => rfl

/-- The proof data: the arrays as the pipeline finds them, and what each point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => endDq (grid0.coords t) (env (grid0.coords t) (ins m c t)) (midAt m c t)
    | ⟨8, _⟩ => k0_pay3 (ptAt m c t.val t.isLt).dk
    | ⟨9, _⟩ => k0_pay4 (ptAt m c t.val t.isLt).dv
    | ⟨10, _⟩ => (ptAt m c t.val t.isLt).dc
    | ⟨11, _⟩ => endDcq (grid0.coords t) (env (grid0.coords t) (ins m c t)) (midAt m c t) row0
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = endDq (grid0.coords t) (env (grid0.coords t) (ins m c t)) (midAt m c t) := by dsimp only [dats]
theorem after0_8 (c : Dev nD) (t : Fin cfg0.N) : (dats m 0 c).after 8 t = k0_pay3 (ptAt m c t.val t.isLt).dk := by dsimp only [dats]
theorem after0_9 (c : Dev nD) (t : Fin cfg0.N) : (dats m 0 c).after 9 t = k0_pay4 (ptAt m c t.val t.isLt).dv := by dsimp only [dats]
theorem after0_10 (c : Dev nD) (t : Fin cfg0.N) : (dats m 0 c).after 10 t = (ptAt m c t.val t.isLt).dc := by dsimp only [dats]
theorem after0_11 (c : Dev nD) (t : Fin cfg0.N) : (dats m 0 c).after 11 t = endDcq (grid0.coords t) (env (grid0.coords t) (ins m c t)) (midAt m c t) row0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem before0_10 (c : Dev nD) (t : Fin cfg0.N) (h0 : ¬t.val % 16 = 0) (d) :
    (dats m 0 c).before 10 t d = (ptAt m c (t.val - 1) (Nat.lt_of_le_of_lt (Nat.sub_le _ _) t.isLt)).dc := by
  have hN : t.val < 128 := lt_of_lt_of_eq t.isLt (show cfg0.N = 128 from N_0)
  rw [Dat.before_out_kept _ 10 rfl t (by omega) (Bool.eq_false_iff.mpr fun h => by have := (flush0_10 _).mp h; dsimp only at this; omega)
    (fun _ => rfl) (fun _ _ => rfl)]
  dsimp only [dats]

theorem pre0_0 (c : Dev nD) (t : Fin cfg0.N) (d) : (dats m 0 c).before 0 t d = (ins m c t).x2 := before0_0 m c t d
theorem post0_0 (c : Dev nD) (t : Fin cfg0.N) : (dats m 0 c).after 0 t = (ins m c t).x2 := after0_0 m c t
theorem pre0_1 (c : Dev nD) (t : Fin cfg0.N) (d) : (dats m 0 c).before 1 t d = (ins m c t).x3 := before0_1 m c t d
theorem post0_1 (c : Dev nD) (t : Fin cfg0.N) : (dats m 0 c).after 1 t = (ins m c t).x3 := after0_1 m c t
theorem pre0_2 (c : Dev nD) (t : Fin cfg0.N) (d) : (dats m 0 c).before 2 t d = (ins m c t).x4 := before0_2 m c t d
theorem post0_2 (c : Dev nD) (t : Fin cfg0.N) : (dats m 0 c).after 2 t = (ins m c t).x4 := after0_2 m c t
theorem pre0_3 (c : Dev nD) (t : Fin cfg0.N) (d) : (dats m 0 c).before 3 t d = (ins m c t).x5 := before0_3 m c t d
theorem post0_3 (c : Dev nD) (t : Fin cfg0.N) : (dats m 0 c).after 3 t = (ins m c t).x5 := after0_3 m c t
theorem pre0_4 (c : Dev nD) (t : Fin cfg0.N) (d) : (dats m 0 c).before 4 t d = (ins m c t).x6 := before0_4 m c t d
theorem post0_4 (c : Dev nD) (t : Fin cfg0.N) : (dats m 0 c).after 4 t = (ins m c t).x6 := after0_4 m c t
theorem pre0_5 (c : Dev nD) (t : Fin cfg0.N) (d) : (dats m 0 c).before 5 t d = (ins m c t).x7 := before0_5 m c t d
theorem post0_5 (c : Dev nD) (t : Fin cfg0.N) : (dats m 0 c).after 5 t = (ins m c t).x7 := after0_5 m c t
theorem pre0_6 (c : Dev nD) (t : Fin cfg0.N) (d) : (dats m 0 c).before 6 t d = (ins m c t).x8 := before0_6 m c t d
theorem post0_6 (c : Dev nD) (t : Fin cfg0.N) : (dats m 0 c).after 6 t = (ins m c t).x8 := after0_6 m c t

/-- Where the two outputs stored last are idle. -/
theorem idleAt0_8 : ∀ t : Fin cfg0.N, ¬t.val % 16 = 15 → cfg0.idle 8 (grid0.coords t) = true := by decide +kernel
theorem idleAt0_9 : ∀ t : Fin cfg0.N, ¬t.val % 16 = 15 → cfg0.idle 9 (grid0.coords t) = true := by decide +kernel
theorem noFlush0_8 (t : Fin cfg0.N) (h : ¬t.val % 16 = 15) : (cfg0.win 8).flush t = false :=
  Bool.eq_false_iff.mpr fun e => h ((flush0_8 t).mp e)
theorem noFlush0_9 (t : Fin cfg0.N) (h : ¬t.val % 16 = 15) : (cfg0.win 9).flush t = false :=
  Bool.eq_false_iff.mpr fun e => h ((flush0_9 t).mp e)
theorem liveAt0_8 : ∀ t : Fin cfg0.N, t.val % 16 = 15 → cfg0.idle 8 (grid0.coords t) = false := by decide +kernel
theorem liveAt0_9 : ∀ t : Fin cfg0.N, t.val % 16 = 15 → cfg0.idle 9 (grid0.coords t) = false := by decide +kernel

end Cert.Proof.KernelIdeal

end
-- ==== Proof.KernelIdeal.RunHead.lean ====
/-
  The parts of a point before its loops, run.
-/
module

public import proofs.«01_k».proof.Proof.KernelIdeal.Body
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
set_option maxHeartbeats 4000000 in
/-- The first part: the reset at the first query block, and the two blocks read. -/
theorem seg13 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (f2 : arg2.view.ty.Contents (Elt F)) (f5 : arg5.view.ty.Contents (Elt F)) (f12 : arg12.view.ty.Contents (Elt F)) (f15 : arg15.view.ty.Contents (Elt F)) (f14 : arg14.view.ty.Contents (Elt F))
    {β : Type} {kk : (Σ' (arg1 : BitVec 32) (v5 : FVec F S512x128 .bf16) (v6 : Vec F S512x128 .bf16) (v9 : IVec S512x512 1) (v36 : IVec S512x128 1) (v37 : IVec S512x128 32) (c64_i32_10 : BitVec 32) (v39 : IVec S512x128 32), BitVec 32) → Prog (TpuEff nD τ sig (Elt F) Λ₀ .tc) β} {Q : β → sProp 𝕄} :
    (iprop((arg2.view.loc (c : Thread nD τ) ↦[arg2.view.set]{fullShare} f2) ∗ (arg5.view.loc (c : Thread nD τ) ↦[arg5.view.set]{fullShare} f5) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ iprop((((arg2.view.loc (c : Thread nD τ) ↦[arg2.view.set]{fullShare} f2) ∗ (arg5.view.loc (c : Thread nD τ) ↦[arg5.view.set]{fullShare} f5) ∗ (arg12.view.loc (c : Thread nD τ) ↦[arg12.view.set]{fullShare} harg12.unread (start i ⟨(arg12.view.read (Elt F) f12), (arg15.view.read (Elt F) f15), (arg14.view.read (Elt F) f14)⟩).dc) ∗ (arg15.view.loc (c : Thread nD τ) ↦[arg15.view.set]{fullShare} harg15.unread (start i ⟨(arg12.view.read (Elt F) f12), (arg15.view.read (Elt F) f15), (arg14.view.read (Elt F) f14)⟩).dv) ∗ (arg14.view.loc (c : Thread nD τ) ↦[arg14.view.set]{fullShare} harg14.unread (start i ⟨(arg12.view.read (Elt F) f12), (arg15.view.read (Elt F) f15), (arg14.view.read (Elt F) f14)⟩).dk)) -∗
          wp frame (wpE (defs₀ (F := F)) Variants.none c none) Set.univ (kk ⟨BitVec.ofNat 32 (i 1).val, k0_pay86 (arg2.view.read (Elt F) f2), (arg5.view.read (Elt F) f5), k0_pay87, k0_pay88, iota .tc S512x128 32 [1] iota_S512x128_d1_w32, 64#32, k0_pay89, 0#32⟩) Q)
        -∗ wp frame (wpE (defs₀ (F := F)) Variants.none c none) Set.univ (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 >>= kk) Q) := by
  have l2 : View.ld (arg2.view.read (Elt F) f2) (Rect.unit (s := S512x128) ![0, 0] S512x128.size inb_S512x128_S512x128_0_0) = arg2.view.read (Elt F) f2 := View.ld_unit_zero off2_zero _ _
  have l5 : View.ld (arg5.view.read (Elt F) f5) (Rect.unit (s := S512x128) ![0, 0] S512x128.size inb_S512x128_S512x128_0_0) = arg5.view.read (Elt F) f5 := View.ld_unit_zero off2_zero _ _
  rw [k0_part13_eq_skeleton]
  by_cases h : (i 1).val = 0
  · have hc := cond1_yes i h
    have hs : (start i ⟨(arg12.view.read (Elt F) f12), (arg15.view.read (Elt F) f15), (arg14.view.read (Elt F) f14)⟩) = ⟨k0_pay85, k0_pay84, k0_pay83⟩ := if_pos h
    rw [hs, ← writes_whole' harg12 f12 (Rect.unit ![0, 0, 0] S1x2x8192.size inb_S1x2x8192_S1x2x8192_0_0_0) k0_pay85 _ (overlay_unit_zero off3_zero _ _ _),
      ← writes_whole' harg15 f15 (Rect.unit ![0, 0] S8192x128.size inb_S8192x128_S8192x128_0_0) k0_pay84 _ (overlay_unit_zero off2_zero _ _ _),
      ← writes_whole' harg14 f14 (Rect.unit ![0, 0] S8192x128.size inb_S8192x128_S8192x128_0_0) k0_pay83 _ (overlay_unit_zero off2_zero _ _ _)]
    iintro ⟨H2, H5, H12, H15, H14⟩ Hk
    unfold k0_part13_skel
    sl_exec (disch := sl_exact hc)
    iapply Hk
    isplitl [H2]; · iexact H2
    isplitl [H5]; · iexact H5
    isplitl [H12]; · iexact H12
    isplitl [H15]; · iexact H15
    iexact H14

  · have hc := cond1_no i h
    have hs : (start i ⟨(arg12.view.read (Elt F) f12), (arg15.view.read (Elt F) f15), (arg14.view.read (Elt F) f14)⟩) = ⟨(arg12.view.read (Elt F) f12), (arg15.view.read (Elt F) f15), (arg14.view.read (Elt F) f14)⟩ := if_neg h
    rw [hs, harg12.unread_read, harg15.unread_read, harg14.unread_read]
    iintro ⟨H2, H5, H12, H15, H14⟩ Hk
    unfold k0_part13_skel
    sl_exec (disch := sl_exact hc)
    iapply Hk
    isplitl [H2]; · iexact H2
    isplitl [H5]; · iexact H5
    isplitl [H12]; · iexact H12
    isplitl [H15]; · iexact H15
    iexact H14

set_option maxHeartbeats 4000000 in
/-- The second part: what the first head's products take. -/
theorem seg14 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v5 : FVec F S512x128 .bf16) (v6 : Vec F S512x128 .bf16) (v36 : IVec S512x128 1) (v37 : IVec S512x128 32) (c64_i32_10 : BitVec 32) (v39 : IVec S512x128 32) (c0_i32_11 : BitVec 32) (f7 : arg7.view.ty.Contents (Elt F)) (f8 : arg8.view.ty.Contents (Elt F))
    {β : Type} {kk : (Σ' (v63 : IVec S512x128 1) (v65 : FVec F S512x128 .bf16) (v67 : FVec F S512x128 .bf16) (v69 : Vec F S512x128 .bf16) (v71 : Vec F S512x128 .bf16) (v77 : FVec F S1x1 .f32) (v78 : FVec F S1x1 .f32), FVec F S512x1 .f32) → Prog (TpuEff nD τ sig (Elt F) Λ₀ .tc) β} {Q : β → sProp 𝕄} :
    (iprop((arg7.view.loc (c : Thread nD τ) ↦[arg7.view.set]{fullShare} f7) ∗ (arg8.view.loc (c : Thread nD τ) ↦[arg8.view.set]{fullShare} f8)) : sProp 𝕄)
      ⊢ iprop((((arg7.view.loc (c : Thread nD τ) ↦[arg7.view.set]{fullShare} f7) ∗ (arg8.view.loc (c : Thread nD τ) ↦[arg8.view.set]{fullShare} f8)) -∗
          wp frame (wpE (defs₀ (F := F)) Variants.none c none) Set.univ (kk ⟨k0_pay90 v37 c64_i32_10 v39 c0_i32_11, k0_pay91 v5 v36, k0_pay92 v5 v37 c64_i32_10 v39 c0_i32_11, k0_pay93 v6 v36, k0_pay94 v6 v37 c64_i32_10 v39 c0_i32_11, k0_pay96 (View.ld (arg8.view.read (Elt F) f8) (Rect.unit (s := S1x2x8192) (k0_off1 i) S1x2x128.size (k0_off1_inb i))), k0_pay97 (View.ld (arg8.view.read (Elt F) f8) (Rect.unit (s := S1x2x8192) (k0_off1 i) S1x2x128.size (k0_off1_inb i))), k0_pay98 (View.ld (arg7.view.read (Elt F) f7) (Rect.unit (s := S2x512x1) ![0, 0, 0] S1x512x1.size inb_S2x512x1_S1x512x1_0_0_0))⟩) Q)
        -∗ wp frame (wpE (defs₀ (F := F)) Variants.none c none) Set.univ (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg1 v5 v6 v36 v37 c64_i32_10 v39 c0_i32_11 >>= kk) Q) := by
  rw [k0_part14_eq_skeleton]
  iintro ⟨H7, H8⟩ Hk
  unfold k0_part14_skel
  sl_exec
  iapply Hk
  isplitl [H7]; · iexact H7
  iexact H8

end Cert.Proof.KernelIdeal

end
-- ==== Proof.KernelIdeal.RunEnd.lean ====
/-
  The end of a point, run.
-/
module

public import proofs.«01_k».proof.Proof.KernelIdeal.Body
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
/-- The last query block. -/
theorem cond2_yes : ∀ i : grid0.Coords, (i 1).val = 15 → k0_cond2 i = 1#1 := by decide +kernel

theorem cond2_no : ∀ i : grid0.Coords, (i 1).val ≠ 15 → ¬ k0_cond2 i = 1#1 := by decide +kernel

set_option maxHeartbeats 4000000 in
/-- The end: the row sums stored, and at the last query block the two gradients copied out. -/
theorem segEnd (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (v292 : FVec F S1x512 .f32) (v266 : FVec F S512x1 .f32) (f10 : arg10.view.ty.Contents (Elt F)) (f11 : arg11.view.ty.Contents (Elt F)) (f13 : arg13.view.ty.Contents (Elt F)) (f14 : arg14.view.ty.Contents (Elt F)) (f15 : arg15.view.ty.Contents (Elt F))
    {Q : PUnit → sProp 𝕄} :
    (iprop((arg10.view.loc (c : Thread nD τ) ↦[arg10.view.set]{fullShare} f10) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ iprop((((arg10.view.loc (c : Thread nD τ) ↦[arg10.view.set]{fullShare} harg10.unread (if (i 1).val = 15 then k0_pay3 (arg14.view.read (Elt F) f14) else (arg10.view.read (Elt F) f10))) ∗ (arg11.view.loc (c : Thread nD τ) ↦[arg11.view.set]{fullShare} harg11.unread (if (i 1).val = 15 then k0_pay4 (arg15.view.read (Elt F) f15) else (arg11.view.read (Elt F) f11))) ∗ (arg13.view.loc (c : Thread nD τ) ↦[arg13.view.set]{fullShare} harg13.unread ((Rect.unit (s := S1x2x512) ![0, 1, 0] S1x1x512.size inb_S1x2x512_S1x1x512_0_1_0).overlay ((Rect.unit (s := S1x2x512) ![0, 0, 0] S1x1x512.size inb_S1x2x512_S1x1x512_0_0_0).overlay (arg13.view.read (Elt F) f13) (k0_pay1 v292)) (k0_pay2 v266))) ∗ (arg14.view.loc (c : Thread nD τ) ↦[arg14.view.set]{fullShare} f14) ∗ (arg15.view.loc (c : Thread nD τ) ↦[arg15.view.set]{fullShare} f15)) -∗ Q ⟨⟩)
        -∗ wp frame (wpE (defs₀ (F := F)) Variants.none c none) Set.univ (do
    let v293 : Vec F S1x1x512 .f32 ← Prog.lift (.load arg13 (Rect.unit (s := S1x2x512) ![0, 0, 0] S1x1x512.size inb_S1x2x512_S1x1x512_0_0_0).toLoadRect (View.loadsAt_vmem h_S1x1x512))
    Prog.lift (.store arg13 (Rect.unit (s := S1x2x512) ![0, 0, 0] S1x1x512.size inb_S1x2x512_S1x1x512_0_0_0) (k0_pay1 v292) Finset.univ (View.stores_vmem_bits_univ h_S1x1x512 rfl) (.inl rfl))
    let v300 : Vec F S1x1x512 .f32 ← Prog.lift (.load arg13 (Rect.unit (s := S1x2x512) ![0, 1, 0] S1x1x512.size inb_S1x2x512_S1x1x512_0_1_0).toLoadRect (View.loadsAt_vmem h_S1x1x512))
    Prog.lift (.store arg13 (Rect.unit (s := S1x2x512) ![0, 1, 0] S1x1x512.size inb_S1x2x512_S1x1x512_0_1_0) (k0_pay2 v266) Finset.univ (View.stores_vmem_bits_univ h_S1x1x512 rfl) (.inl rfl))
    if k0_h2 : k0_cond2 i = 1#1 then do
      let v306 : Vec F S8192x128 .f32 ← Prog.lift (.load arg14 (Rect.unit (s := S8192x128) ![0, 0] S8192x128.size inb_S8192x128_S8192x128_0_0).toLoadRect (View.loadsAt_vmem h_S8192x128))
      let v308 : Vec F S8192x128 .bf16 ← Prog.lift (.load arg10 (Rect.unit (s := S8192x128) ![0, 0] S8192x128.size inb_S8192x128_S8192x128_0_0).toLoadRect (View.loadsAt_vmem h_S8192x128))
      Prog.lift (.store arg10 (Rect.unit (s := S8192x128) ![0, 0] S8192x128.size inb_S8192x128_S8192x128_0_0) (k0_pay3 v306) Finset.univ (View.stores_vmem h_S8192x128 (harg10.storeExact_slice rfl _ packedbf16_S8192x128_S8192x128_0_0) (fun _ => rfl)) (.inl rfl))
      let v309 : Vec F S8192x128 .f32 ← Prog.lift (.load arg15 (Rect.unit (s := S8192x128) ![0, 0] S8192x128.size inb_S8192x128_S8192x128_0_0).toLoadRect (View.loadsAt_vmem h_S8192x128))
      let v311 : Vec F S8192x128 .bf16 ← Prog.lift (.load arg11 (Rect.unit (s := S8192x128) ![0, 0] S8192x128.size inb_S8192x128_S8192x128_0_0).toLoadRect (View.loadsAt_vmem h_S8192x128))
      Prog.lift (.store arg11 (Rect.unit (s := S8192x128) ![0, 0] S8192x128.size inb_S8192x128_S8192x128_0_0) (k0_pay4 v309) Finset.univ (View.stores_vmem h_S8192x128 (harg11.storeExact_slice rfl _ packedbf16_S8192x128_S8192x128_0_0) (fun _ => rfl)) (.inl rfl))
      pure ⟨⟩
    else do
      pure ⟨⟩
    pure ⟨⟩) Q) := by
  have l14 : View.ld (arg14.view.read (Elt F) f14) (Rect.unit (s := S8192x128) ![0, 0] S8192x128.size inb_S8192x128_S8192x128_0_0) = arg14.view.read (Elt F) f14 := View.ld_unit_zero off2_zero _ _
  have l15 : View.ld (arg15.view.read (Elt F) f15) (Rect.unit (s := S8192x128) ![0, 0] S8192x128.size inb_S8192x128_S8192x128_0_0) = arg15.view.read (Elt F) f15 := View.ld_unit_zero off2_zero _ _
  rw [← writes_whole₂' harg13 f13 _ _ _ _ _ rfl]
  by_cases h15 : (i 1).val = 15
  · have hc := cond2_yes i h15
    rw [if_pos h15, if_pos h15, ← writes_whole' harg10 f10 (Rect.unit ![0, 0] S8192x128.size inb_S8192x128_S8192x128_0_0) (k0_pay3 (arg14.view.read (Elt F) f14)) _ (overlay_unit_zero off2_zero _ _ _),
      ← writes_whole' harg11 f11 (Rect.unit ![0, 0] S8192x128.size inb_S8192x128_S8192x128_0_0) (k0_pay4 (arg15.view.read (Elt F) f15)) _ (overlay_unit_zero off2_zero _ _ _)]
    iintro ⟨H10, H11, H13, H14, H15⟩ Hk
    sl_exec (disch := sl_exact hc)
    simp only [wp_ret]
    imodintro
    iapply Hk
    isplitl [H10]; · iexact H10
    isplitl [H11]; · iexact H11
    isplitl [H13]; · iexact H13
    isplitl [H14]; · iexact H14
    iexact H15
  · have hc := cond2_no i h15
    rw [if_neg h15, if_neg h15, harg10.unread_read, harg11.unread_read]
    iintro ⟨H10, H11, H13, H14, H15⟩ Hk
    sl_exec (disch := sl_exact hc)
    simp only [wp_ret]
    imodintro
    iapply Hk
    isplitl [H10]; · iexact H10
    isplitl [H11]; · iexact H11
    isplitl [H13]; · iexact H13
    isplitl [H14]; · iexact H14
    iexact H15

end Cert.Proof.KernelIdeal

end
-- ==== Proof.KernelIdeal.RunDiag.lean ====
/-
  The parts of a point after its loops, run.
-/
module

public import proofs.«01_k».proof.Proof.KernelIdeal.Body
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
set_option maxHeartbeats 4000000 in
/-- The fifth part: the first head's scores on the diagonal. -/
theorem seg17 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (v9 : IVec S512x512 1) (v65 : FVec F S512x128 .bf16) (v69 : Vec F S512x128 .bf16) (v77 : FVec F S1x1 .f32) (v80 : FVec F S512x1 .f32) (v90 : FVec F S512x1 .f32) (v130 : BitVec 32) (v132 : Vec F S512x128 .bf16) (v134 : Vec F S512x128 .bf16) (v162 : IVec S512x128 32) (c64_i32_62 : BitVec 32) (v164 : IVec S512x128 32) (c0_i32_63 : BitVec 32) (f8 : arg8.view.ty.Contents (Elt F))
    {β : Type} {kk : (Σ' (v188 : IVec S512x128 1) (v189 : FVec F S512x128 .f32) (v190 : FVec F S512x128 .f32) (v207 : FVec F S512x512 .f32) (v209 : FVec F S512x512 .bf16), FVec F S512x128 .f32) → Prog (TpuEff nD τ sig (Elt F) Λ₀ .tc) β} {Q : β → sProp 𝕄} :
    (iprop((arg8.view.loc (c : Thread nD τ) ↦[arg8.view.set]{fullShare} f8)) : sProp 𝕄)
      ⊢ iprop(((arg8.view.loc (c : Thread nD τ) ↦[arg8.view.set]{fullShare} f8) -∗
          wp frame (wpE (defs₀ (F := F)) Variants.none c none) Set.univ (kk ⟨k0_pay125 v162 c64_i32_62 v164 c0_i32_63, k0_pay126 (F := F), k0_pay127 (F := F), k0_pay129 v9 v65 v69 v77 v80 v90 v132 v134 (View.ld (arg8.view.read (Elt F) f8) (Rect.unit (s := S1x2x8192) (k0_off15 i) S1x1x512.size (k0_off15_inb i))), k0_pay130 v9 v65 v69 v77 v80 v90 v132 v134 (View.ld (arg8.view.read (Elt F) f8) (Rect.unit (s := S1x2x8192) (k0_off15 i) S1x1x512.size (k0_off15_inb i))), k0_pay131 v9 v65 v69 v77 v80 v132 (View.ld (arg8.view.read (Elt F) f8) (Rect.unit (s := S1x2x8192) (k0_off15 i) S1x1x512.size (k0_off15_inb i)))⟩) Q)
        -∗ wp frame (wpE (defs₀ (F := F)) Variants.none c none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 v9 v65 v69 v77 v80 v90 v130 v132 v134 v162 c64_i32_62 v164 c0_i32_63 >>= kk) Q) := by
  rw [k0_part17_eq_skeleton]
  iintro H8 Hk
  unfold k0_part17_skel
  sl_exec
  iapply Hk
  iexact H8

set_option maxHeartbeats 4000000 in
/-- The sixth part: the first head's decay sums on the diagonal, and the second head's scores. -/
theorem seg18 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (v9 : IVec S512x512 1) (v65 : FVec F S512x128 .bf16) (v67 : FVec F S512x128 .bf16) (v71 : Vec F S512x128 .bf16) (v78 : FVec F S1x1 .f32) (v82 : FVec F S512x1 .f32) (v94 : FVec F S512x1 .f32) (v128_0 : FVec F S512x128 .f32) (v128_1 : FVec F S512x1 .f32) (v130 : BitVec 32) (v132 : Vec F S512x128 .bf16) (v134 : Vec F S512x128 .bf16) (v161 : IVec S512x128 1) (v189 : FVec F S512x128 .f32) (v190 : FVec F S512x128 .f32) (v207 : FVec F S512x512 .f32) (v209 : FVec F S512x512 .bf16) (v210 : FVec F S512x128 .f32) (f8 : arg8.view.ty.Contents (Elt F)) (f12 : arg12.view.ty.Contents (Elt F))
    {β : Type} {kk : (Σ' (v226 : FVec F S512x1 .f32) (v230 : FVec F S512x128 .f32) (v247 : FVec F S512x512 .f32) (v249 : FVec F S512x512 .bf16) (v251 : FVec F S512x128 .f32), FVec F S512x128 .f32) → Prog (TpuEff nD τ sig (Elt F) Λ₀ .tc) β} {Q : β → sProp 𝕄} :
    (iprop((arg8.view.loc (c : Thread nD τ) ↦[arg8.view.set]{fullShare} f8) ∗ (arg12.view.loc (c : Thread nD τ) ↦[arg12.view.set]{fullShare} f12)) : sProp 𝕄)
      ⊢ iprop((((arg8.view.loc (c : Thread nD τ) ↦[arg8.view.set]{fullShare} f8) ∗ (arg12.view.loc (c : Thread nD τ) ↦[arg12.view.set]{fullShare} harg12.unread ((Rect.unit (s := S1x2x8192) (k0_off15 i) S1x1x512.size (k0_off15_inb i)).overlay (arg12.view.read (Elt F) f12) (k0_pay132 v207 (View.ld (arg12.view.read (Elt F) f12) (Rect.unit (s := S1x2x8192) (k0_off15 i) S1x1x512.size (k0_off15_inb i))))))) -∗
          wp frame (wpE (defs₀ (F := F)) Variants.none c none) Set.univ (kk ⟨k0_pay133 v128_1 v207, k0_pay134 v128_0 v132 v161 v209, k0_pay136 v9 v67 v71 v78 v82 v94 v132 v134 (View.ld (arg8.view.read (Elt F) f8) (Rect.unit (s := S1x2x8192) (k0_off16 i) S1x1x512.size (k0_off16_inb i))), k0_pay137 v9 v67 v71 v78 v82 v94 v132 v134 (View.ld (arg8.view.read (Elt F) f8) (Rect.unit (s := S1x2x8192) (k0_off16 i) S1x1x512.size (k0_off16_inb i))), k0_pay138 v9 v67 v71 v78 v82 v132 v189 v210 (View.ld (arg8.view.read (Elt F) f8) (Rect.unit (s := S1x2x8192) (k0_off16 i) S1x1x512.size (k0_off16_inb i))), k0_pay139 v9 v65 v67 v71 v78 v82 v94 v132 v134 v190 v209 (View.ld (arg8.view.read (Elt F) f8) (Rect.unit (s := S1x2x8192) (k0_off16 i) S1x1x512.size (k0_off16_inb i)))⟩) Q)
        -∗ wp frame (wpE (defs₀ (F := F)) Variants.none c none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 v9 v65 v67 v71 v78 v82 v94 v128_0 v128_1 v130 v132 v134 v161 v189 v190 v207 v209 v210 >>= kk) Q) := by
  rw [k0_part18_eq_skeleton, ← writes_whole' harg12 f12 _ _ _ rfl]
  iintro ⟨H8, H12⟩ Hk
  unfold k0_part18_skel
  sl_exec
  iapply Hk
  isplitl [H8]; · iexact H8
  iexact H12

set_option maxHeartbeats 4000000 in
/-- The seventh part: the second head's decay sums, the value and key gradients on the diagonal and the query gradient. -/
theorem seg19 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (v128_2 : FVec F S512x1 .f32) (v130 : BitVec 32) (v132 : Vec F S512x128 .bf16) (v188 : IVec S512x128 1) (v226 : FVec F S512x1 .f32) (v230 : FVec F S512x128 .f32) (v247 : FVec F S512x512 .f32) (v249 : FVec F S512x512 .bf16) (v251 : FVec F S512x128 .f32) (v253 : FVec F S512x128 .f32) (f12 : arg12.view.ty.Contents (Elt F)) (f15 : arg15.view.ty.Contents (Elt F)) (f14 : arg14.view.ty.Contents (Elt F)) (f9 : arg9.view.ty.Contents (Elt F))
    {β : Type} {kk : (Σ' (v266 : FVec F S512x1 .f32), FVec F S1x512 .f32) → Prog (TpuEff nD τ sig (Elt F) Λ₀ .tc) β} {Q : β → sProp 𝕄} :
    (iprop((arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14) ∗ (arg9.view.loc (c : Thread nD τ) ↦[arg9.view.set]{fullShare} f9)) : sProp 𝕄)
      ⊢ iprop((((arg12.view.loc (c : Thread nD τ) ↦[arg12.view.set]{fullShare} harg12.unread ((Rect.unit (s := S1x2x8192) (k0_off16 i) S1x1x512.size (k0_off16_inb i)).overlay (arg12.view.read (Elt F) f12) (k0_pay140 v247 (View.ld (arg12.view.read (Elt F) f12) (Rect.unit (s := S1x2x8192) (k0_off16 i) S1x1x512.size (k0_off16_inb i)))))) ∗ (arg15.view.loc (c : Thread nD τ) ↦[arg15.view.set]{fullShare} harg15.unread ((Rect.unit (s := S8192x128) (k0_off14 i) S512x128.size (k0_off14_inb i)).overlay (arg15.view.read (Elt F) f15) (k0_pay142 v251 (View.ld (arg15.view.read (Elt F) f15) (Rect.unit (s := S8192x128) (k0_off14 i) S512x128.size (k0_off14_inb i)))))) ∗ (arg14.view.loc (c : Thread nD τ) ↦[arg14.view.set]{fullShare} harg14.unread ((Rect.unit (s := S8192x128) (k0_off14 i) S512x128.size (k0_off14_inb i)).overlay (arg14.view.read (Elt F) f14) (k0_pay143 v253 (View.ld (arg14.view.read (Elt F) f14) (Rect.unit (s := S8192x128) (k0_off14 i) S512x128.size (k0_off14_inb i)))))) ∗ (arg9.view.loc (c : Thread nD τ) ↦[arg9.view.set]{fullShare} harg9.unread (k0_pay144 v132 v188 v230 v249))) -∗
          wp frame (wpE (defs₀ (F := F)) Variants.none c none) Set.univ (kk ⟨k0_pay141 v128_2 v247, k0_pay145 v226⟩) Q)
        -∗ wp frame (wpE (defs₀ (F := F)) Variants.none c none) Set.univ (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 v128_2 v130 v132 v188 v226 v230 v247 v249 v251 v253 >>= kk) Q) := by
  rw [k0_part19_eq_skeleton, ← writes_whole' harg12 f12 _ _ _ rfl, ← writes_whole' harg15 f15 _ _ _ rfl, ← writes_whole' harg14 f14 _ _ _ rfl,
      ← writes_whole' harg9 f9 (Rect.unit ![0, 0] S512x128.size inb_S512x128_S512x128_0_0) (k0_pay144 v132 v188 v230 v249) _ (overlay_unit_zero off2_zero _ _ _)]
  iintro ⟨H12, H15, H14, H9⟩ Hk
  unfold k0_part19_skel
  sl_exec
  iapply Hk
  isplitl [H12]; · iexact H12
  isplitl [H15]; · iexact H15
  isplitl [H14]; · iexact H14
  iexact H9

end Cert.Proof.KernelIdeal

end
-- ==== Proof.KernelIdeal.Run.lean ====
/-
  A trip of each of the two counted loops that run, executed: from the buffers at given contents to the buffers at the
  contents that `trip1` and `trip3` name.
-/
module

public import proofs.«01_k».proof.Proof.KernelIdeal.Trip
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
/-- Trip `k` of loop `t1`: the three read arrays stay, the accumulators and the carried sums become `trip1`'s. -/
theorem run_trip1_raw (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v6 : Vec F S512x128 .bf16) (v36 : IVec S512x128 1) (v63 : IVec S512x128 1) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (v81 : Vec F S1x512x1 .f32) (v84 : Vec F S512x128 .f32)
    (f3 : arg3.view.ty.Contents (Elt F)) (f4 : arg4.view.ty.Contents (Elt F)) (f8 : arg8.view.ty.Contents (Elt F))
    (f12 : arg12.view.ty.Contents (Elt F)) (f15 : arg15.view.ty.Contents (Elt F)) (f14 : arg14.view.ty.Contents (Elt F))
    (k : Fin (k0_t1_loop i).trips) (a : FVec F S512x128 .f32 × FVec F S512x1 .f32 × FVec F S512x1 .f32) :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ wp frame (wpE (defs₀ (F := F)) Variants.none c none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80 v81 v84 k a)
          (fun acc => iprop(∃ s' : St F, ⌜s' = trip1 i ⟨arg3.view.read (Elt F) f3, arg4.view.read (Elt F) f4, arg8.view.read (Elt F) f8, v65, v67, v69, v71, v77, v78, v80, k0_pay99 v81, k0_pay101 v6 v36 v84, k0_pay102 v6 v63 v84⟩ k
              ⟨a, arg12.view.read (Elt F) f12, arg15.view.read (Elt F) f15, arg14.view.read (Elt F) f14⟩ ∧ acc = s'.acc⌝ ∗
              (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk))) := by
  obtain ⟨a0, a1, a2⟩ := a
  unfold k0_t1_body
  simp only [k0_part1_eq_skeleton, k0_part2_eq_skeleton, k0_part3_eq_skeleton]
  iintro ⟨H3, H4, H8, H12, H15, H14⟩
  sl_exec
  sl_step
  rw [writes_whole₂' harg12 _ _ _ _ _ (trip1 i ⟨arg3.view.read (Elt F) f3, arg4.view.read (Elt F) f4, arg8.view.read (Elt F) f8, v65, v67, v69, v71, v77, v78, v80, k0_pay99 v81, k0_pay101 v6 v36 v84, k0_pay102 v6 v63 v84⟩ k ⟨(a0, a1, a2), arg12.view.read (Elt F) f12, arg15.view.read (Elt F) f15, arg14.view.read (Elt F) f14⟩).dc ?g12,
    writes_whole' harg15 _ _ _ (trip1 i ⟨arg3.view.read (Elt F) f3, arg4.view.read (Elt F) f4, arg8.view.read (Elt F) f8, v65, v67, v69, v71, v77, v78, v80, k0_pay99 v81, k0_pay101 v6 v36 v84, k0_pay102 v6 v63 v84⟩ k ⟨(a0, a1, a2), arg12.view.read (Elt F) f12, arg15.view.read (Elt F) f15, arg14.view.read (Elt F) f14⟩).dv ?g15,
    writes_whole' harg14 _ _ _ (trip1 i ⟨arg3.view.read (Elt F) f3, arg4.view.read (Elt F) f4, arg8.view.read (Elt F) f8, v65, v67, v69, v71, v77, v78, v80, k0_pay99 v81, k0_pay101 v6 v36 v84, k0_pay102 v6 v63 v84⟩ k ⟨(a0, a1, a2), arg12.view.read (Elt F) f12, arg15.view.read (Elt F) f15, arg14.view.read (Elt F) f14⟩).dk ?g14]
  case g12 =>
    unfold trip1
    sl_open_run
    simp only [View.readAt_eq_ld]
  case g15 =>
    unfold trip1
    sl_open_run
    simp only [View.readAt_eq_ld]
  case g14 =>
    unfold trip1
    sl_open_run
    simp only [View.readAt_eq_ld]
  iexists (trip1 i ⟨arg3.view.read (Elt F) f3, arg4.view.read (Elt F) f4, arg8.view.read (Elt F) f8, v65, v67, v69, v71, v77, v78, v80, k0_pay99 v81, k0_pay101 v6 v36 v84, k0_pay102 v6 v63 v84⟩ k
              ⟨(a0, a1, a2), arg12.view.read (Elt F) f12, arg15.view.read (Elt F) f15, arg14.view.read (Elt F) f14⟩)
  isplitr
  · ipureintro
    refine ⟨rfl, ?_⟩
    unfold trip1
    sl_open_run
    simp only [View.readAt_eq_ld]
  isplitl [H3]; · iexact H3
  isplitl [H4]; · iexact H4
  isplitl [H8]; · iexact H8
  isplitl [H12]; · iexact H12
  isplitl [H15]; · iexact H15
  iexact H14

set_option maxHeartbeats 4000000 in
/-- Trip `k` of loop `t3`: the three read arrays stay, the accumulators and the carried sums become `trip3`'s. -/
theorem run_trip3_raw (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (v82 : FVec F S512x1 .f32) (v90 : FVec F S512x1 .f32) (v94 : FVec F S512x1 .f32) (v112 : BitVec 32) (v120_0 : FVec F S512x128 .f32) (v120_1 : FVec F S512x1 .f32) (v120_2 : FVec F S512x1 .f32) (c2_i32_47 : BitVec 32) (v121 : BitVec 32)
    (f3 : arg3.view.ty.Contents (Elt F)) (f4 : arg4.view.ty.Contents (Elt F)) (f8 : arg8.view.ty.Contents (Elt F))
    (f12 : arg12.view.ty.Contents (Elt F)) (f15 : arg15.view.ty.Contents (Elt F)) (f14 : arg14.view.ty.Contents (Elt F))
    (k : Fin (k0_t3_loop i).trips) (a : FVec F S512x128 .f32 × FVec F S512x1 .f32 × FVec F S512x1 .f32) :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ wp frame (wpE (defs₀ (F := F)) Variants.none c none) Set.univ
          (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 v121 k a)
          (fun acc => iprop(∃ s' : St F, ⌜s' = trip3 i ⟨arg3.view.read (Elt F) f3, arg4.view.read (Elt F) f4, arg8.view.read (Elt F) f8, v65, v67, v69, v71, v77, v78, v80, v82, v90, v94⟩ k
              ⟨a, arg12.view.read (Elt F) f12, arg15.view.read (Elt F) f15, arg14.view.read (Elt F) f14⟩ ∧ acc = s'.acc⌝ ∗
              (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk))) := by
  obtain ⟨a0, a1, a2⟩ := a
  unfold k0_t3_body
  simp only [k0_part7_eq_skeleton, k0_part8_eq_skeleton, k0_part9_eq_skeleton]
  iintro ⟨H3, H4, H8, H12, H15, H14⟩
  sl_exec
  sl_step
  rw [writes_whole₂' harg12 _ _ _ _ _ (trip3 i ⟨arg3.view.read (Elt F) f3, arg4.view.read (Elt F) f4, arg8.view.read (Elt F) f8, v65, v67, v69, v71, v77, v78, v80, v82, v90, v94⟩ k ⟨(a0, a1, a2), arg12.view.read (Elt F) f12, arg15.view.read (Elt F) f15, arg14.view.read (Elt F) f14⟩).dc ?g12,
    writes_whole' harg15 _ _ _ (trip3 i ⟨arg3.view.read (Elt F) f3, arg4.view.read (Elt F) f4, arg8.view.read (Elt F) f8, v65, v67, v69, v71, v77, v78, v80, v82, v90, v94⟩ k ⟨(a0, a1, a2), arg12.view.read (Elt F) f12, arg15.view.read (Elt F) f15, arg14.view.read (Elt F) f14⟩).dv ?g15,
    writes_whole' harg14 _ _ _ (trip3 i ⟨arg3.view.read (Elt F) f3, arg4.view.read (Elt F) f4, arg8.view.read (Elt F) f8, v65, v67, v69, v71, v77, v78, v80, v82, v90, v94⟩ k ⟨(a0, a1, a2), arg12.view.read (Elt F) f12, arg15.view.read (Elt F) f15, arg14.view.read (Elt F) f14⟩).dk ?g14]
  case g12 =>
    unfold trip3
    sl_open_run
    simp only [View.readAt_eq_ld]
  case g15 =>
    unfold trip3
    sl_open_run
    simp only [View.readAt_eq_ld]
  case g14 =>
    unfold trip3
    sl_open_run
    simp only [View.readAt_eq_ld]
  iexists (trip3 i ⟨arg3.view.read (Elt F) f3, arg4.view.read (Elt F) f4, arg8.view.read (Elt F) f8, v65, v67, v69, v71, v77, v78, v80, v82, v90, v94⟩ k
              ⟨(a0, a1, a2), arg12.view.read (Elt F) f12, arg15.view.read (Elt F) f15, arg14.view.read (Elt F) f14⟩)
  isplitr
  · ipureintro
    refine ⟨rfl, ?_⟩
    unfold trip3
    sl_open_run
    simp only [View.readAt_eq_ld]
  isplitl [H3]; · iexact H3
  isplitl [H4]; · iexact H4
  isplitl [H8]; · iexact H8
  isplitl [H12]; · iexact H12
  isplitl [H15]; · iexact H15
  iexact H14

end Cert.Proof.KernelIdeal

end
-- ==== Proof.KernelIdeal.RunLoop.lean ====
/-
  A trip of each of the two counted loops that run, executed: from the buffers at given contents to the buffers at the
  contents that `trip1` and `trip3` name.
-/
module

public import proofs.«01_k».proof.Proof.KernelIdeal.Run

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
/-- The loop `t1` run from any contents: it leaves what `st1` names, and carries its sums on. -/
theorem run_loop1 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v6 : Vec F S512x128 .bf16) (v36 : IVec S512x128 1) (v63 : IVec S512x128 1) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (v81 : Vec F S1x512x1 .f32) (v84 : Vec F S512x128 .f32)
    (f3 : arg3.view.ty.Contents (Elt F)) (f4 : arg4.view.ty.Contents (Elt F)) (f8 : arg8.view.ty.Contents (Elt F))
    (f12 : arg12.view.ty.Contents (Elt F)) (f15 : arg15.view.ty.Contents (Elt F)) (f14 : arg14.view.ty.Contents (Elt F))
    (init : FVec F S512x128 .f32 × FVec F S512x1 .f32 × FVec F S512x1 .f32) {β : Type}
    {kk : FVec F S512x128 .f32 × FVec F S512x1 .f32 × FVec F S512x1 .f32 → Prog (TpuEff nD τ sig (Elt F) Λ₀ .tc) β}
    {Q : β → sProp 𝕄} :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ iprop((∀ s' : St F, ⌜s' = st1 i ⟨arg3.view.read (Elt F) f3, arg4.view.read (Elt F) f4, arg8.view.read (Elt F) f8, v65, v67, v69, v71, v77, v78, v80, k0_pay99 v81, k0_pay101 v6 v36 v84, k0_pay102 v6 v63 v84⟩ ⟨init, arg12.view.read (Elt F) f12, arg15.view.read (Elt F) f15, arg14.view.read (Elt F) f14⟩ (k0_t1_loop i).trips⌝ -∗
            ((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk)) -∗
            wp frame (wpE (defs₀ (F := F)) Variants.none c none) Set.univ (kk s'.acc) Q)
          -∗ wp frame (wpE (defs₀ (F := F)) Variants.none c none) Set.univ
            (Scf.for (k0_t1_loop i).lb (k0_t1_loop i).ub (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80 v81 v84) >>= kk) Q) := by
  have h := Scf.wp_for_bind (M := 𝕄) frame (wpE (defs₀ (F := F)) Variants.none c none) Set.univ (k0_t1_loop i).lb (k0_t1_loop i).ub
    (k0_t1_loop i).st (k0_t1_ok i) init (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80 v81 v84)
    (fun k acc => iprop(∃ s' : St F, ∃ g12, ∃ g15, ∃ g14, ⌜s' = st1 i ⟨arg3.view.read (Elt F) f3, arg4.view.read (Elt F) f4, arg8.view.read (Elt F) f8, v65, v67, v69, v71, v77, v78, v80, k0_pay99 v81, k0_pay101 v6 v36 v84, k0_pay102 v6 v63 v84⟩ ⟨init, arg12.view.read (Elt F) f12, arg15.view.read (Elt F) f15, arg14.view.read (Elt F) f14⟩ k ∧ acc = s'.acc ∧
        arg12.view.read (Elt F) g12 = s'.dc ∧ arg15.view.read (Elt F) g15 = s'.dv ∧ arg14.view.read (Elt F) g14 = s'.dk⌝ ∗
      (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} g12) ∗ (arg15.view.loc (c : Thread nD τ) ↦[arg15.view.set]{fullShare} g15) ∗ (arg14.view.loc (c : Thread nD τ) ↦[arg14.view.set]{fullShare} g14)))
    (fun k acc => by
      iintro ⟨%s', %g12, %g15, %g14, %hs, H⟩
      obtain ⟨h1, h2, h3, h4, h5⟩ := hs
      iapply ((run_trip1_raw c i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80 v81 v84 f3 f4 f8 g12 g15 g14 k acc).trans (wp_mono _ _ _ ?hq)) $$ H
      case hq =>
        intro acc'
        iintro ⟨%t, %ht, H3, H4, H8, H12, H15, H14⟩
        iexists t, harg12.unread t.dc, harg15.unread t.dv, harg14.unread t.dk
        isplitr
        · ipureintro
          refine ⟨?_, ht.2, harg12.read_unread _, harg15.read_unread _, harg14.read_unread _⟩
          rw [ht.1, h3, h4, h5, h2, h1]
          exact (st1_succ i _ _ k).symm
        isplitl [H3]; · iexact H3
        isplitl [H4]; · iexact H4
        isplitl [H8]; · iexact H8
        isplitl [H12]; · iexact H12
        isplitl [H15]; · iexact H15
        iexact H14) (kk := kk) (Q := Q)
  iintro ⟨H3, H4, H8, H12, H15, H14⟩ Hk
  iapply h $$ [H3 H4 H8 H12 H15 H14]
  · iexists ⟨init, arg12.view.read (Elt F) f12, arg15.view.read (Elt F) f15, arg14.view.read (Elt F) f14⟩, f12, f15, f14
    isplitr
    · ipureintro
      exact ⟨rfl, rfl, rfl, rfl, rfl⟩
    isplitl [H3]; · iexact H3
    isplitl [H4]; · iexact H4
    isplitl [H8]; · iexact H8
    isplitl [H12]; · iexact H12
    isplitl [H15]; · iexact H15
    iexact H14
  iintro %acc ⟨%s', %g12, %g15, %g14, %hs, H3, H4, H8, H12, H15, H14⟩
  obtain ⟨h1, h2, h3, h4, h5⟩ := hs
  subst h2
  iapply Hk $$ %s' %h1
  rw [← h3, ← h4, ← h5, harg12.unread_read, harg15.unread_read, harg14.unread_read]
  isplitl [H3]; · iexact H3
  isplitl [H4]; · iexact H4
  isplitl [H8]; · iexact H8
  isplitl [H12]; · iexact H12
  isplitl [H15]; · iexact H15
  iexact H14

/-- The loop `t3` run from any contents: it leaves what `st3` names, and carries its sums on. -/
theorem run_loop3 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (v82 : FVec F S512x1 .f32) (v90 : FVec F S512x1 .f32) (v94 : FVec F S512x1 .f32) (v112 : BitVec 32) (v120_0 : FVec F S512x128 .f32) (v120_1 : FVec F S512x1 .f32) (v120_2 : FVec F S512x1 .f32) (c2_i32_47 : BitVec 32) (v121 : BitVec 32)
    (f3 : arg3.view.ty.Contents (Elt F)) (f4 : arg4.view.ty.Contents (Elt F)) (f8 : arg8.view.ty.Contents (Elt F))
    (f12 : arg12.view.ty.Contents (Elt F)) (f15 : arg15.view.ty.Contents (Elt F)) (f14 : arg14.view.ty.Contents (Elt F))
    (init : FVec F S512x128 .f32 × FVec F S512x1 .f32 × FVec F S512x1 .f32) {β : Type}
    {kk : FVec F S512x128 .f32 × FVec F S512x1 .f32 × FVec F S512x1 .f32 → Prog (TpuEff nD τ sig (Elt F) Λ₀ .tc) β}
    {Q : β → sProp 𝕄} :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ iprop((∀ s' : St F, ⌜s' = st3 i ⟨arg3.view.read (Elt F) f3, arg4.view.read (Elt F) f4, arg8.view.read (Elt F) f8, v65, v67, v69, v71, v77, v78, v80, v82, v90, v94⟩ ⟨init, arg12.view.read (Elt F) f12, arg15.view.read (Elt F) f15, arg14.view.read (Elt F) f14⟩ (k0_t3_loop i).trips⌝ -∗
            ((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk)) -∗
            wp frame (wpE (defs₀ (F := F)) Variants.none c none) Set.univ (kk s'.acc) Q)
          -∗ wp frame (wpE (defs₀ (F := F)) Variants.none c none) Set.univ
            (Scf.for (k0_t3_loop i).lb (k0_t3_loop i).ub (k0_t3_loop i).st (k0_t3_ok i) init (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 v121) >>= kk) Q) := by
  have h := Scf.wp_for_bind (M := 𝕄) frame (wpE (defs₀ (F := F)) Variants.none c none) Set.univ (k0_t3_loop i).lb (k0_t3_loop i).ub
    (k0_t3_loop i).st (k0_t3_ok i) init (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 v121)
    (fun k acc => iprop(∃ s' : St F, ∃ g12, ∃ g15, ∃ g14, ⌜s' = st3 i ⟨arg3.view.read (Elt F) f3, arg4.view.read (Elt F) f4, arg8.view.read (Elt F) f8, v65, v67, v69, v71, v77, v78, v80, v82, v90, v94⟩ ⟨init, arg12.view.read (Elt F) f12, arg15.view.read (Elt F) f15, arg14.view.read (Elt F) f14⟩ k ∧ acc = s'.acc ∧
        arg12.view.read (Elt F) g12 = s'.dc ∧ arg15.view.read (Elt F) g15 = s'.dv ∧ arg14.view.read (Elt F) g14 = s'.dk⌝ ∗
      (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} g12) ∗ (arg15.view.loc (c : Thread nD τ) ↦[arg15.view.set]{fullShare} g15) ∗ (arg14.view.loc (c : Thread nD τ) ↦[arg14.view.set]{fullShare} g14)))
    (fun k acc => by
      iintro ⟨%s', %g12, %g15, %g14, %hs, H⟩
      obtain ⟨h1, h2, h3, h4, h5⟩ := hs
      iapply ((run_trip3_raw c i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 v121 f3 f4 f8 g12 g15 g14 k acc).trans (wp_mono _ _ _ ?hq)) $$ H
      case hq =>
        intro acc'
        iintro ⟨%t, %ht, H3, H4, H8, H12, H15, H14⟩
        iexists t, harg12.unread t.dc, harg15.unread t.dv, harg14.unread t.dk
        isplitr
        · ipureintro
          refine ⟨?_, ht.2, harg12.read_unread _, harg15.read_unread _, harg14.read_unread _⟩
          rw [ht.1, h3, h4, h5, h2, h1]
          exact (st3_succ i _ _ k).symm
        isplitl [H3]; · iexact H3
        isplitl [H4]; · iexact H4
        isplitl [H8]; · iexact H8
        isplitl [H12]; · iexact H12
        isplitl [H15]; · iexact H15
        iexact H14) (kk := kk) (Q := Q)
  iintro ⟨H3, H4, H8, H12, H15, H14⟩ Hk
  iapply h $$ [H3 H4 H8 H12 H15 H14]
  · iexists ⟨init, arg12.view.read (Elt F) f12, arg15.view.read (Elt F) f15, arg14.view.read (Elt F) f14⟩, f12, f15, f14
    isplitr
    · ipureintro
      exact ⟨rfl, rfl, rfl, rfl, rfl⟩
    isplitl [H3]; · iexact H3
    isplitl [H4]; · iexact H4
    isplitl [H8]; · iexact H8
    isplitl [H12]; · iexact H12
    isplitl [H15]; · iexact H15
    iexact H14
  iintro %acc ⟨%s', %g12, %g15, %g14, %hs, H3, H4, H8, H12, H15, H14⟩
  obtain ⟨h1, h2, h3, h4, h5⟩ := hs
  subst h2
  iapply Hk $$ %s' %h1
  rw [← h3, ← h4, ← h5, harg12.unread_read, harg15.unread_read, harg14.unread_read]
  isplitl [H3]; · iexact H3
  isplitl [H4]; · iexact H4
  isplitl [H8]; · iexact H8
  isplitl [H12]; · iexact H12
  isplitl [H15]; · iexact H15
  iexact H14

end Cert.Proof.KernelIdeal

end
-- ==== Proof.KernelIdeal.RunMid.lean ====
/-
  The parts of a point that hold its loops, run.
-/
module

public import proofs.«01_k».proof.Proof.KernelIdeal.Body
public import proofs.«01_k».proof.Proof.KernelIdeal.RunLoop
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
/-- Half a query block's number, as the loop bounds compute it. -/
def half (arg1 : BitVec 32) : BitVec 32 :=
  let v96 : BitVec 32 := Scalar.divsi arg1 2#32
  let v97 : BitVec 1 := Scalar.cmpi .sgt arg1 0#32
  let v98 : BitVec 32 := Scalar.extui v97
  let v99 : BitVec 1 := Scalar.cmpi .slt arg1 0#32
  let v100 : BitVec 32 := Scalar.extui v99
  let v101 : BitVec 32 := Scalar.subi v98 v100
  let v102 : BitVec 1 := Scalar.cmpi .sgt 2#32 0#32
  let v103 : BitVec 32 := Scalar.extui v102
  let v104 : BitVec 1 := Scalar.cmpi .slt 2#32 0#32
  let v105 : BitVec 32 := Scalar.extui v104
  let v106 : BitVec 32 := Scalar.subi v103 v105
  let v107 : BitVec 1 := Scalar.cmpi .ne v101 v106
  let v108 : BitVec 32 := Scalar.remsi arg1 2#32
  let v109 : BitVec 1 := Scalar.cmpi .ne v108 0#32
  let v110 : BitVec 1 := Scalar.andi v107 v109
  let v111 : BitVec 32 := Scalar.subi v96 1#32
  Scalar.select v110 v111 v96

set_option maxHeartbeats 4000000 in
/-- The third part: what the second head's products take, and the loop over pairs of key blocks. -/
theorem seg15 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v6 : Vec F S512x128 .bf16) (v36 : IVec S512x128 1) (v63 : IVec S512x128 1) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (f6 : arg6.view.ty.Contents (Elt F)) (f7 : arg7.view.ty.Contents (Elt F)) (f3 : arg3.view.ty.Contents (Elt F)) (f4 : arg4.view.ty.Contents (Elt F)) (f8 : arg8.view.ty.Contents (Elt F)) (f12 : arg12.view.ty.Contents (Elt F)) (f15 : arg15.view.ty.Contents (Elt F)) (f14 : arg14.view.ty.Contents (Elt F))
    {β : Type} {kk : (Σ' (v82 : FVec F S512x1 .f32) (v90 : FVec F S512x1 .f32) (v94 : FVec F S512x1 .f32) (v112 : BitVec 32) (v120_0 : FVec F S512x128 .f32) (v120_1 : FVec F S512x1 .f32) (v120_2 : FVec F S512x1 .f32), BitVec 32) → Prog (TpuEff nD τ sig (Elt F) Λ₀ .tc) β} {Q : β → sProp 𝕄} :
    (iprop((arg6.view.loc (c : Thread nD τ) ↦[arg6.view.set]{fullShare} f6) ∗ (arg7.view.loc (c : Thread nD τ) ↦[arg7.view.set]{fullShare} f7) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ iprop((∀ s' : St F, ⌜s' = st1 i ⟨(arg3.view.read (Elt F) f3), (arg4.view.read (Elt F) f4), (arg8.view.read (Elt F) f8), v65, v67, v69, v71, v77, v78, v80, k0_pay99 (View.ld (arg7.view.read (Elt F) f7) (Rect.unit (s := S2x512x1) ![1, 0, 0] S1x512x1.size inb_S2x512x1_S1x512x1_1_0_0)), k0_pay101 v6 v36 (arg6.view.read (Elt F) f6), k0_pay102 v6 v63 (arg6.view.read (Elt F) f6)⟩ ⟨(k0_pay104, k0_pay103, k0_pay103), (arg12.view.read (Elt F) f12), (arg15.view.read (Elt F) f15), (arg14.view.read (Elt F) f14)⟩ (k0_t1_loop i).trips⌝ -∗
          ((arg6.view.loc (c : Thread nD τ) ↦[arg6.view.set]{fullShare} f6) ∗ (arg7.view.loc (c : Thread nD τ) ↦[arg7.view.set]{fullShare} f7) ∗ (arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk)) -∗
          wp frame (wpE (defs₀ (F := F)) Variants.none c none) Set.univ (kk ⟨k0_pay99 (View.ld (arg7.view.read (Elt F) f7) (Rect.unit (s := S2x512x1) ![1, 0, 0] S1x512x1.size inb_S2x512x1_S1x512x1_1_0_0)), k0_pay101 v6 v36 (arg6.view.read (Elt F) f6), k0_pay102 v6 v63 (arg6.view.read (Elt F) f6), half arg1, s'.acc.1, s'.acc.2.1, s'.acc.2.2, 2#32⟩) Q)
        -∗ wp frame (wpE (defs₀ (F := F)) Variants.none c none) Set.univ (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80 >>= kk) Q) := by
  rw [k0_part15_eq_skeleton]
  have htr : (k0_t2_loop i).trips = 0 := trips2 i
  have l6 : View.ld (arg6.view.read (Elt F) f6) (Rect.unit (s := S512x128) ![0, 0] S512x128.size inb_S512x128_S512x128_0_0) = arg6.view.read (Elt F) f6 := View.ld_unit_zero off2_zero _ _
  iintro ⟨H6, H7, H3, H4, H8, H12, H15, H14⟩ Hk
  unfold k0_part15_skel
  sl_exec
  simp only [bind_assoc]
  iapply (run_loop1 c i arg2 harg2 arg3 harg3 arg4 harg4 arg5 harg5 arg6 harg6 arg7 harg7 arg8 harg8 arg9 harg9 arg10 harg10 arg11 harg11 arg12 harg12 arg13 harg13 arg14 harg14 arg15 harg15 arg1 v6 v36 v63 v65 v67 v69 v71 v77 v78 v80  (View.ld (arg7.view.read (Elt F) f7) (Rect.unit (s := S2x512x1) ![1, 0, 0] S1x512x1.size inb_S2x512x1_S1x512x1_1_0_0)) (arg6.view.read (Elt F) f6) f3 f4 f8 f12 f15 f14 (k0_pay104, k0_pay103, k0_pay103)) $$ [H3 H4 H8 H12 H15 H14]
  · isplitl [H3]; · iexact H3
    isplitl [H4]; · iexact H4
    isplitl [H8]; · iexact H8
    isplitl [H12]; · iexact H12
    isplitl [H15]; · iexact H15
    iexact H14

  iintro %s' %hs ⟨H3, H4, H8, H12, H15, H14⟩
  sl_exec
  iapply Hk $$ %s' %hs
  isplitl [H6]; · iexact H6
  isplitl [H7]; · iexact H7
  isplitl [H3]; · iexact H3
  isplitl [H4]; · iexact H4
  isplitl [H8]; · iexact H8
  isplitl [H12]; · iexact H12
  isplitl [H15]; · iexact H15
  iexact H14

set_option maxHeartbeats 4000000 in
/-- The fourth part: the loop over the key block that is left, and the blocks on the diagonal read. -/
theorem seg16 (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (arg1 : BitVec 32) (v65 : FVec F S512x128 .bf16) (v67 : FVec F S512x128 .bf16) (v69 : Vec F S512x128 .bf16) (v71 : Vec F S512x128 .bf16) (v77 : FVec F S1x1 .f32) (v78 : FVec F S1x1 .f32) (v80 : FVec F S512x1 .f32) (v82 : FVec F S512x1 .f32) (v90 : FVec F S512x1 .f32) (v94 : FVec F S512x1 .f32) (v112 : BitVec 32) (v120_0 : FVec F S512x128 .f32) (v120_1 : FVec F S512x1 .f32) (v120_2 : FVec F S512x1 .f32) (c2_i32_47 : BitVec 32) (f3 : arg3.view.ty.Contents (Elt F)) (f4 : arg4.view.ty.Contents (Elt F)) (f8 : arg8.view.ty.Contents (Elt F)) (f12 : arg12.view.ty.Contents (Elt F)) (f15 : arg15.view.ty.Contents (Elt F)) (f14 : arg14.view.ty.Contents (Elt F))
    {β : Type} {kk : (Σ' (v128_0 : FVec F S512x128 .f32) (v128_1 : FVec F S512x1 .f32) (v128_2 : FVec F S512x1 .f32) (v130 : BitVec 32) (v132 : Vec F S512x128 .bf16) (v134 : Vec F S512x128 .bf16) (v161 : IVec S512x128 1) (v162 : IVec S512x128 32) (c64_i32_62 : BitVec 32) (v164 : IVec S512x128 32), BitVec 32) → Prog (TpuEff nD τ sig (Elt F) Λ₀ .tc) β} {Q : β → sProp 𝕄} :
    (iprop((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} f12) ∗ (arg15.view.loc (c : Thread nD τ) ↦[arg15.view.set]{fullShare} f15) ∗ (arg14.view.loc (c : Thread nD τ) ↦[arg14.view.set]{fullShare} f14)) : sProp 𝕄)
      ⊢ iprop((∀ s' : St F, ⌜s' = st3 i ⟨(arg3.view.read (Elt F) f3), (arg4.view.read (Elt F) f4), (arg8.view.read (Elt F) f8), v65, v67, v69, v71, v77, v78, v80, v82, v90, v94⟩ ⟨(v120_0, v120_1, v120_2), (arg12.view.read (Elt F) f12), (arg15.view.read (Elt F) f15), (arg14.view.read (Elt F) f14)⟩ (k0_t3_loop i).trips⌝ -∗
          ((arg3.view.loc (c : Thread nD τ) ↦[arg3.view.set]{fullShare} f3) ∗ (arg4.view.loc (c : Thread nD τ) ↦[arg4.view.set]{fullShare} f4) ∗ (arg8.view.loc (c : Thread nD τ) ↦[arg8.view.set]{fullShare} f8) ∗ (arg12.view.loc (c : Thread nD τ) ↦[arg12.view.set]{fullShare} harg12.unread s'.dc) ∗ (arg15.view.loc (c : Thread nD τ) ↦[arg15.view.set]{fullShare} harg15.unread s'.dv) ∗ (arg14.view.loc (c : Thread nD τ) ↦[arg14.view.set]{fullShare} harg14.unread s'.dk)) -∗
          wp frame (wpE (defs₀ (F := F)) Variants.none c none) Set.univ (kk ⟨s'.acc.1, s'.acc.2.1, s'.acc.2.2, Scalar.muli arg1 512#32, (View.ld (arg3.view.read (Elt F) f3) (Rect.unit (s := S8192x128) (k0_off14 i) S512x128.size (k0_off14_inb i))), (View.ld (arg4.view.read (Elt F) f4) (Rect.unit (s := S8192x128) (k0_off14 i) S512x128.size (k0_off14_inb i))), k0_pay123, iota .tc S512x128 32 [1] iota_S512x128_d1_w32, 64#32, k0_pay124, 0#32⟩) Q)
        -∗ wp frame (wpE (defs₀ (F := F)) Variants.none c none) Set.univ (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 >>= kk) Q) := by
  rw [k0_part16_eq_skeleton]
  have htr : (k0_t4_loop i).trips = 0 := trips4 i
  iintro ⟨H3, H4, H8, H12, H15, H14⟩ Hk
  unfold k0_part16_skel
  sl_exec
  simp only [bind_assoc]
  iapply (run_loop3 c i arg2 harg2 arg3 harg3 arg4 harg4 arg5 harg5 arg6 harg6 arg7 harg7 arg8 harg8 arg9 harg9 arg10 harg10 arg11 harg11 arg12 harg12 arg13 harg13 arg14 harg14 arg15 harg15 arg1 v65 v67 v69 v71 v77 v78 v80 v82 v90 v94 v112 v120_0 v120_1 v120_2 c2_i32_47 (Scalar.muli v112 c2_i32_47) f3 f4 f8 f12 f15 f14 (v120_0, v120_1, v120_2)) $$ [H3 H4 H8 H12 H15 H14]
  · isplitl [H3]; · iexact H3
    isplitl [H4]; · iexact H4
    isplitl [H8]; · iexact H8
    isplitl [H12]; · iexact H12
    isplitl [H15]; · iexact H15
    iexact H14

  iintro %s' %hs ⟨H3, H4, H8, H12, H15, H14⟩
  sl_exec
  iapply Hk $$ %s' %hs
  isplitl [H3]; · iexact H3
  isplitl [H4]; · iexact H4
  isplitl [H8]; · iexact H8
  isplitl [H12]; · iexact H12
  isplitl [H15]; · iexact H15
  iexact H14

end Cert.Proof.KernelIdeal

end
-- ==== Proof.KernelIdeal.RunBody.lean ====
/-
  One grid point of the attention gradient, run.
-/
module

public import proofs.«01_k».proof.Proof.KernelIdeal.RunHead
public import proofs.«01_k».proof.Proof.KernelIdeal.RunEnd
public import proofs.«01_k».proof.Proof.KernelIdeal.RunDiag
public import proofs.«01_k».proof.Proof.KernelIdeal.RunMid
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in
set_option maxHeartbeats 8000000 in
/-- One grid point, run. -/
theorem run_body_raw (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (x : Ins F) (hx : x = (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))
    {Q : PUnit → sProp 𝕄} :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ iprop((∀ s : St F, ⌜s = mid i x ⟨(arg12.view.read (Elt F) f12), (arg15.view.read (Elt F) f15), (arg14.view.read (Elt F) f14)⟩⌝ -∗
          ((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} harg9.unread (endDq i (env i x) s)) ∗ (arg10.view.loc (c : Thread nD τ) ↦[arg10.view.set]{fullShare} harg10.unread (if (i 1).val = 15 then k0_pay3 (endDk i (env i x) s) else (arg10.view.read (Elt F) f10))) ∗ (arg11.view.loc (c : Thread nD τ) ↦[arg11.view.set]{fullShare} harg11.unread (if (i 1).val = 15 then k0_pay4 (endDv i (env i x) s) else (arg11.view.read (Elt F) f11))) ∗ (arg12.view.loc (c : Thread nD τ) ↦[arg12.view.set]{fullShare} harg12.unread (endDc i (env i x) s)) ∗ (arg13.view.loc (c : Thread nD τ) ↦[arg13.view.set]{fullShare} harg13.unread (endDcq i (env i x) s (arg13.view.read (Elt F) f13))) ∗ (arg14.view.loc (c : Thread nD τ) ↦[arg14.view.set]{fullShare} harg14.unread (endDk i (env i x) s)) ∗ (arg15.view.loc (c : Thread nD τ) ↦[arg15.view.set]{fullShare} harg15.unread (endDv i (env i x) s))) -∗ Q ⟨⟩)
        -∗ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15) Q) := by
  subst hx
  rw [cc0_attn_bwd_eq_skeleton]
  unfold cc0_attn_bwd_skel
  iintro ⟨H2, H3, H4, H5, H6, H7, H8, H9, H10, H11, H12, H13, H14, H15⟩ Hk
  iapply (seg13 c i arg2 harg2 arg3 harg3 arg4 harg4 arg5 harg5 arg6 harg6 arg7 harg7 arg8 harg8 arg9 harg9 arg10 harg10 arg11 harg11 arg12 harg12 arg13 harg13 arg14 harg14 arg15 harg15 f2 f5 f12 f15 f14) $$ [H2 H5 H12 H15 H14]
  · isplitl [H2]; · iexact H2
    isplitl [H5]; · iexact H5
    isplitl [H12]; · iexact H12
    isplitl [H15]; · iexact H15
    iexact H14
  iintro ⟨H2, H5, H12, H15, H14⟩
  dsimp only
  iapply (seg14 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ f7 f8) $$ [H7 H8]
  · isplitl [H7]; · iexact H7
    iexact H8
  iintro ⟨H7, H8⟩
  dsimp only
  iapply (seg15 c i arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ _ _ _ f6 f7 f3 f4 f8 _ _ _) $$ [H6 H7 H3 H4 H8 H12 H15 H14]
  · isplitl [H6]; · iexact H6
    isplitl [H7]; · iexact H7
    isplitl [H3]; · iexact H3
    isplitl [H4]; · iexact H4
    isplitl [H8]; · iexact H8
    isplitl [H12]; · iexact H12
    isplitl [H15]; · iexact H15
    iexact H14
  iintro %s1 %hs1 ⟨H6, H7, H3, H4, H8, H12, H15, H14⟩
  dsimp only
  iapply (seg16 c i arg2 harg2 arg3 harg3 arg4 harg4 arg5 harg5 arg6 harg6 arg7 harg7 arg8 harg8 arg9 harg9 arg10 harg10 arg11 harg11 arg12 harg12 arg13 harg13 arg14 harg14 arg15 harg15 _ (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v65 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v67 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v69 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v71 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v77 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v78 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v80 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v82 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v89 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v93 _ _ _ _ _ f3 f4 f8 _ _ _) $$ [H3 H4 H8 H12 H15 H14]
  · isplitl [H3]; · iexact H3
    isplitl [H4]; · iexact H4
    isplitl [H8]; · iexact H8
    isplitl [H12]; · iexact H12
    isplitl [H15]; · iexact H15
    iexact H14
  iintro %s2 %hs2 ⟨H3, H4, H8, H12, H15, H14⟩
  dsimp only
  iapply (seg17 c i arg2 harg2 arg3 harg3 arg4 harg4 arg5 harg5 arg6 harg6 arg7 harg7 arg8 harg8 arg9 harg9 arg10 harg10 arg11 harg11 arg12 harg12 arg13 harg13 arg14 harg14 arg15 harg15 k0_pay87 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v65 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v69 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v77 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v80 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v89 _ (kd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (vd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) _ _ _ _ f8) $$ [H8]
  · iexact H8
  iintro H8
  dsimp only
  iapply (seg18 c i arg2 harg2 arg3 harg3 arg4 harg4 arg5 harg5 arg6 harg6 arg7 harg7 arg8 harg8 arg9 harg9 arg10 harg10 arg11 harg11 arg12 harg12 arg13 harg13 arg14 harg14 arg15 harg15 k0_pay87 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v65 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v67 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v71 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v78 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v82 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v93 s2.acc.1 s2.acc.2.1 _ (kd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (vd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) k0_pay123 k0_pay126 k0_pay127 (ds0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (dsb0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (k0_pay131 k0_pay87 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v65 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v69 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v77 (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)).v80 (kd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (c0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)))) f8 _) $$ [H8 H12]
  · isplitl [H8]; · iexact H8
    iexact H12
  iintro ⟨H8, H12⟩
  dsimp only
  iapply (seg19 c i arg2 harg2 arg3 harg3 arg4 harg4 arg5 harg5 arg6 harg6 arg7 harg7 arg8 harg8 arg9 harg9 arg10 harg10 arg11 harg11 arg12 harg12 arg13 harg13 arg14 harg14 arg15 harg15 s2.acc.2.2 _ (kd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (k0_pay125 (iota .tc S512x128 32 [1] iota_S512x128_d1_w32) 64#32 k0_pay124 0#32) (k0_pay133 s2.acc.2.1 (ds0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)))) (k0_pay134 s2.acc.1 (kd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) k0_pay123 (dsb0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)))) (ds1 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (dsb1 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (dvd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) (dkd i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))) _ _ _ f9) $$ [H12 H15 H14 H9]
  · isplitl [H12]; · iexact H12
    isplitl [H15]; · iexact H15
    isplitl [H14]; · iexact H14
    iexact H9
  iintro ⟨H12, H15, H14, H9⟩
  dsimp only

  rw [harg12.read_unread, harg15.read_unread, harg14.read_unread] at hs1
  rw [harg12.read_unread, harg15.read_unread, harg14.read_unread] at hs2
  have hs : s2 = mid i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F) ⟨(arg12.view.read (Elt F) f12), (arg15.view.read (Elt F) f15), (arg14.view.read (Elt F) f14)⟩ := by
    rw [hs2, hs1]; rfl
  simp only [harg12.read_unread, harg15.read_unread, harg14.read_unread]
  iapply (segEnd c i arg2 harg2 arg3 harg3 arg4 harg4 arg5 harg5 arg6 harg6 arg7 harg7 arg8 harg8 arg9 harg9 arg10 harg10 arg11 harg11 arg12 harg12 arg13 harg13 arg14 harg14 arg15 harg15 (k0_pay145 (k0_pay133 s2.acc.2.1 (ds0 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F))))) (k0_pay141 s2.acc.2.2 (ds1 i (env i (⟨(arg2.view.read (Elt F) f2), (arg3.view.read (Elt F) f3), (arg4.view.read (Elt F) f4), (arg5.view.read (Elt F) f5), (arg6.view.read (Elt F) f6), (arg7.view.read (Elt F) f7), (arg8.view.read (Elt F) f8)⟩ : Ins F)))) f10 f11 f13 _ _) $$ [H10 H11 H13 H14 H15]
  · isplitl [H10]; · iexact H10
    isplitl [H11]; · iexact H11
    isplitl [H13]; · iexact H13
    isplitl [H14]; · iexact H14
    iexact H15
  iintro ⟨H10, H11, H13, H14, H15⟩
  simp only [harg15.read_unread, harg14.read_unread]
  iapply Hk $$ %s2 %hs
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

end Cert.Proof.KernelIdeal

end
-- ==== Proof.KernelIdeal.RunPoint.lean ====
/-
  One grid point of the attention gradient, run, over whole staging buffers.
-/
module

public import proofs.«01_k».proof.Proof.KernelIdeal.RunBody
public import Idealize.ShloMosaic.Lib.Tactic.Stretches

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
set_option maxHeartbeats 4000000 in
set_option maxHeartbeats 4000000 in
set_option maxHeartbeats 4000000 in
set_option maxHeartbeats 4000000 in

/-- One grid point, run, over owned buffers. -/
theorem run_body (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .bf16) (harg5 : arg5.IsWhole) (arg6 : Memref sig .tc .vmem S512x128 .f32) (harg6 : arg6.IsWhole) (arg7 : Memref sig .tc .vmem S2x512x1 .f32) (harg7 : arg7.IsWhole) (arg8 : Memref sig .tc .vmem S1x2x8192 .f32) (harg8 : arg8.IsWhole) (arg9 : Memref sig .tc .vmem S512x128 .bf16) (harg9 : arg9.IsWhole) (arg10 : Memref sig .tc .vmem S8192x128 .bf16) (harg10 : arg10.IsWhole) (arg11 : Memref sig .tc .vmem S8192x128 .bf16) (harg11 : arg11.IsWhole) (arg12 : Memref sig .tc .vmem S1x2x8192 .f32) (harg12 : arg12.IsWhole) (arg13 : Memref sig .tc .vmem S1x2x512 .f32) (harg13 : arg13.IsWhole) (arg14 : Memref sig .tc .vmem S8192x128 .f32) (harg14 : arg14.IsWhole) (arg15 : Memref sig .tc .vmem S8192x128 .f32) (harg15 : arg15.IsWhole) (x : Ins F) (p : Pt F)
    (d9 : Vec F S512x128 .bf16) (d10 d11 : Vec F S8192x128 .bf16) (d13 : Vec F S1x2x512 .f32) {Q : PUnit → sProp 𝕄} :
    (iprop(owns (c : Thread nD τ) arg2 fullShare x.x2 ∗ owns (c : Thread nD τ) arg3 fullShare x.x3 ∗ owns (c : Thread nD τ) arg4 fullShare x.x4 ∗ owns (c : Thread nD τ) arg5 fullShare x.x5 ∗ owns (c : Thread nD τ) arg6 fullShare x.x6 ∗ owns (c : Thread nD τ) arg7 fullShare x.x7 ∗ owns (c : Thread nD τ) arg8 fullShare x.x8 ∗ owns (c : Thread nD τ) arg9 fullShare d9 ∗ owns (c : Thread nD τ) arg10 fullShare d10 ∗ owns (c : Thread nD τ) arg11 fullShare d11 ∗ owns (c : Thread nD τ) arg12 fullShare p.dc ∗ owns (c : Thread nD τ) arg13 fullShare d13 ∗ owns (c : Thread nD τ) arg14 fullShare p.dk ∗ owns (c : Thread nD τ) arg15 fullShare p.dv) : sProp 𝕄)
      ⊢ iprop(((owns (c : Thread nD τ) arg2 fullShare x.x2 ∗ owns (c : Thread nD τ) arg3 fullShare x.x3 ∗ owns (c : Thread nD τ) arg4 fullShare x.x4 ∗ owns (c : Thread nD τ) arg5 fullShare x.x5 ∗ owns (c : Thread nD τ) arg6 fullShare x.x6 ∗ owns (c : Thread nD τ) arg7 fullShare x.x7 ∗ owns (c : Thread nD τ) arg8 fullShare x.x8 ∗ owns (c : Thread nD τ) arg9 fullShare (endDq i (env i x) (mid i x p)) ∗ owns (c : Thread nD τ) arg10 fullShare (if (i 1).val = 15 then k0_pay3 (endDk i (env i x) (mid i x p)) else d10) ∗ owns (c : Thread nD τ) arg11 fullShare (if (i 1).val = 15 then k0_pay4 (endDv i (env i x) (mid i x p)) else d11) ∗ owns (c : Thread nD τ) arg12 fullShare (endDc i (env i x) (mid i x p)) ∗ owns (c : Thread nD τ) arg13 fullShare (endDcq i (env i x) (mid i x p) d13) ∗ owns (c : Thread nD τ) arg14 fullShare (endDk i (env i x) (mid i x p)) ∗ owns (c : Thread nD τ) arg15 fullShare (endDv i (env i x) (mid i x p))) -∗ Q ⟨⟩)
        -∗ wp frame (wpE (defs₀ (F := F)) Variants.none c none) Set.univ (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15) Q) := by
  obtain ⟨x2, x3, x4, x5, x6, x7, x8⟩ := x
  obtain ⟨dc, dv, dk⟩ := p
  unfold owns
  dsimp only
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩ Hk
  subst h2 h3 h4 h5 h6 h7 h8 h9 h10 h11 h12 h13 h14 h15
  iapply (run_body_raw c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15 _ rfl) $$ [H2 H3 H4 H5 H6 H7 H8 H9 H10 H11 H12 H13 H14 H15]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  iintro %s %hs ⟨H2, H3, H4, H5, H6, H7, H8, H9, H10, H11, H12, H13, H14, H15⟩
  subst hs
  iapply Hk
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  iexists _; isplitr; swap; · iexact H15
  ipureintro; exact harg15.read_unread _

end Cert.Proof.KernelIdeal

end
-- ==== Proof.KernelIdeal.Frame.lean ====
/-
  The attention gradient runs and leaves its arguments as they were.
-/
module

public import proofs.«01_k».proof.Proof.KernelIdeal.Data
public import proofs.«01_k».proof.Proof.KernelIdeal.RunPoint
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A point, over what the pipeline hands it. -/
theorem step (c : Dev nD) (t : Fin cfg0.N) (p : Pt F) (hp : midAt m c t = mid (grid0.coords t) (ins m c t) p)
    (d7 : Vec F S512x128 .bf16) (d8 d9 : Vec F S8192x128 .bf16) (d11 : Vec F S1x2x512 .f32) {Q : PUnit → sProp 𝕄} :
    (iprop(owns (c : Thread nD τ) (ms0_0 t) fullShare ((ins m c t).x2) ∗ owns (c : Thread nD τ) (ms0_1 t) fullShare ((ins m c t).x3) ∗ owns (c : Thread nD τ) (ms0_2 t) fullShare ((ins m c t).x4) ∗ owns (c : Thread nD τ) (ms0_3 t) fullShare ((ins m c t).x5) ∗ owns (c : Thread nD τ) (ms0_4 t) fullShare ((ins m c t).x6) ∗ owns (c : Thread nD τ) (ms0_5 t) fullShare ((ins m c t).x7) ∗ owns (c : Thread nD τ) (ms0_6 t) fullShare ((ins m c t).x8) ∗ owns (c : Thread nD τ) (ms0_7 t) fullShare (d7) ∗ owns (c : Thread nD τ) (ms0_8 t) fullShare (d8) ∗ owns (c : Thread nD τ) (ms0_9 t) fullShare (d9) ∗ owns (c : Thread nD τ) (ms0_10 t) fullShare (p.dc) ∗ owns (c : Thread nD τ) (ms0_11 t) fullShare (d11) ∗ owns (c : Thread nD τ) scM0_0 fullShare p.dk ∗ owns (c : Thread nD τ) scM0_1 fullShare p.dv) : sProp 𝕄)
      ⊢ iprop(((owns (c : Thread nD τ) (ms0_0 t) fullShare ((ins m c t).x2) ∗ owns (c : Thread nD τ) (ms0_1 t) fullShare ((ins m c t).x3) ∗ owns (c : Thread nD τ) (ms0_2 t) fullShare ((ins m c t).x4) ∗ owns (c : Thread nD τ) (ms0_3 t) fullShare ((ins m c t).x5) ∗ owns (c : Thread nD τ) (ms0_4 t) fullShare ((ins m c t).x6) ∗ owns (c : Thread nD τ) (ms0_5 t) fullShare ((ins m c t).x7) ∗ owns (c : Thread nD τ) (ms0_6 t) fullShare ((ins m c t).x8) ∗ owns (c : Thread nD τ) (ms0_7 t) fullShare (endDq (grid0.coords t) (env (grid0.coords t) (ins m c t)) (midAt m c t)) ∗ owns (c : Thread nD τ) (ms0_8 t) fullShare (if t.val % 16 = 15 then k0_pay3 (ptAt m c t.val t.isLt).dk else d8) ∗ owns (c : Thread nD τ) (ms0_9 t) fullShare (if t.val % 16 = 15 then k0_pay4 (ptAt m c t.val t.isLt).dv else d9) ∗ owns (c : Thread nD τ) (ms0_10 t) fullShare ((ptAt m c t.val t.isLt).dc) ∗ owns (c : Thread nD τ) (ms0_11 t) fullShare (endDcq (grid0.coords t) (env (grid0.coords t) (ins m c t)) (midAt m c t) row0) ∗ owns (c : Thread nD τ) scM0_0 fullShare (ptAt m c t.val t.isLt).dk ∗ owns (c : Thread nD τ) scM0_1 fullShare (ptAt m c t.val t.isLt).dv) -∗ Q ⟨⟩)
        -∗ wp frame (wpE (defs₀ (F := F)) Variants.none c none) Set.univ (bodyAt0 t) Q) := by
  have key := run_body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (ins m c t) p d7 d8 d9 d11 (Q := Q)
  rw [← hp] at key
  rw [coords1 t] at key
  rw [endDcq_any (grid0.coords t) (env (grid0.coords t) (ins m c t)) (midAt m c t) d11 row0] at key
  rw [ptAt_mid m c t]
  dsimp only
  exact key

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [pre0_0, pre0_1, pre0_2, pre0_3, pre0_4, pre0_5, pre0_6]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [show cfg0.idle 0 (grid0.coords t) = false from rfl], post0_0]
  rw [show (dats m 0 c).leavesExact 1 t = owns (c : Thread nD τ) (ms0_1 t) fullShare ((dats m 0 c).after 1 t) from by
    unfold Dat.leavesExact; rw [show cfg0.idle 1 (grid0.coords t) = false from rfl], post0_1]
  rw [show (dats m 0 c).leavesExact 2 t = owns (c : Thread nD τ) (ms0_2 t) fullShare ((dats m 0 c).after 2 t) from by
    unfold Dat.leavesExact; rw [show cfg0.idle 2 (grid0.coords t) = false from rfl], post0_2]
  rw [show (dats m 0 c).leavesExact 3 t = owns (c : Thread nD τ) (ms0_3 t) fullShare ((dats m 0 c).after 3 t) from by
    unfold Dat.leavesExact; rw [show cfg0.idle 3 (grid0.coords t) = false from rfl], post0_3]
  rw [show (dats m 0 c).leavesExact 4 t = owns (c : Thread nD τ) (ms0_4 t) fullShare ((dats m 0 c).after 4 t) from by
    unfold Dat.leavesExact; rw [show cfg0.idle 4 (grid0.coords t) = false from rfl], post0_4]
  rw [show (dats m 0 c).leavesExact 5 t = owns (c : Thread nD τ) (ms0_5 t) fullShare ((dats m 0 c).after 5 t) from by
    unfold Dat.leavesExact; rw [show cfg0.idle 5 (grid0.coords t) = false from rfl], post0_5]
  rw [show (dats m 0 c).leavesExact 6 t = owns (c : Thread nD τ) (ms0_6 t) fullShare ((dats m 0 c).after 6 t) from by
    unfold Dat.leavesExact; rw [show cfg0.idle 6 (grid0.coords t) = false from rfl], post0_6]
  rw [show (dats m 0 c).leavesExact 7 t = owns (c : Thread nD τ) (ms0_7 t) fullShare ((dats m 0 c).after 7 t) from by
    unfold Dat.leavesExact; rw [show cfg0.idle 7 (grid0.coords t) = false from rfl], after0_7]
  rw [show (dats m 0 c).leavesExact 10 t = owns (c : Thread nD τ) (ms0_10 t) fullShare ((dats m 0 c).after 10 t) from by
    unfold Dat.leavesExact; rw [show cfg0.idle 10 (grid0.coords t) = false from rfl], after0_10]
  rw [show (dats m 0 c).leavesExact 11 t = owns (c : Thread nD τ) (ms0_11 t) fullShare ((dats m 0 c).after 11 t) from by
    unfold Dat.leavesExact; rw [show cfg0.idle 11 (grid0.coords t) = false from rfl], after0_11]
  by_cases h0 : t.val % 16 = 0
  · have h15 : ¬t.val % 16 = 15 := by omega
    rw [Dat.leavesExact_idle (dats m 0 c) 8 t (idleAt0_8 t h15) (noFlush0_8 t h15)]
    rw [Dat.leavesExact_idle (dats m 0 c) 9 t (idleAt0_9 t h15) (noFlush0_9 t h15)]
    by_cases hz : t.val = 0
    · rw [PhiS_castSucc m c t, PhiS_zero m c _ _ hz, PhiA0_eq]
      iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (step m c t ⟨(dats m 0 c).before 10 t d10, e1, e0⟩ (midAt_first m c t h0 _) ((dats m 0 c).before 7 t d7) ((dats m 0 c).before 8 t d8) ((dats m 0 c).before 9 t d9) ((dats m 0 c).before 11 t d11)) $$ [H0 H1 H2 H3 H4 H5 H6 H7 H8 H9 H10 H11 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iexact HS1
      iintro ⟨H0, H1, H2, H3, H4, H5, H6, H7, H8, H9, H10, H11, HS0, HS1⟩
      rw [if_neg h15, if_neg h15]
      isplitl [HS0 HS1 Hg]
      · isplitr [Hg]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      iexact H11
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (step m c t ⟨(dats m 0 c).before 10 t d10, (ptAt m c (t.val - 1) (Nat.lt_of_le_of_lt (Nat.sub_le _ _) t.isLt)).dv, (ptAt m c (t.val - 1) (Nat.lt_of_le_of_lt (Nat.sub_le _ _) t.isLt)).dk⟩ (midAt_first m c t h0 _) ((dats m 0 c).before 7 t d7) ((dats m 0 c).before 8 t d8) ((dats m 0 c).before 9 t d9) ((dats m 0 c).before 11 t d11)) $$ [H0 H1 H2 H3 H4 H5 H6 H7 H8 H9 H10 H11 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iexact HS1
      iintro ⟨H0, H1, H2, H3, H4, H5, H6, H7, H8, H9, H10, H11, HS0, HS1⟩
      rw [if_neg h15, if_neg h15]
      isplitl [HS0 HS1 Hg]
      · isplitr [Hg]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      iexact H11
  · have hz : t.val ≠ 0 := by omega
    by_cases h15 : t.val % 16 = 15
    · rw [show (dats m 0 c).leavesExact 8 t = owns (c : Thread nD τ) (ms0_8 t) fullShare ((dats m 0 c).after 8 t) from by
        unfold Dat.leavesExact; rw [liveAt0_8 t h15], after0_8]
      rw [show (dats m 0 c).leavesExact 9 t = owns (c : Thread nD τ) (ms0_9 t) fullShare ((dats m 0 c).after 9 t) from by
        unfold Dat.leavesExact; rw [liveAt0_9 t h15], after0_9]
      rw [PhiS_castSucc m c t, PhiS_pos m c _ _ hz]
      simp only [before0_10 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (step m c t (ptAt m c (t.val - 1) (Nat.lt_of_le_of_lt (Nat.sub_le _ _) t.isLt)) (midAt_next m c t hz) ((dats m 0 c).before 7 t d7) ((dats m 0 c).before 8 t d8) ((dats m 0 c).before 9 t d9) ((dats m 0 c).before 11 t d11)) $$ [H0 H1 H2 H3 H4 H5 H6 H7 H8 H9 H10 H11 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iexact HS1
      iintro ⟨H0, H1, H2, H3, H4, H5, H6, H7, H8, H9, H10, H11, HS0, HS1⟩
      rw [if_pos h15, if_pos h15]
      isplitl [HS0 HS1 Hg]
      · isplitr [Hg]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · rw [Dat.leavesExact_idle (dats m 0 c) 8 t (idleAt0_8 t h15) (noFlush0_8 t h15)]
      rw [Dat.leavesExact_idle (dats m 0 c) 9 t (idleAt0_9 t h15) (noFlush0_9 t h15)]
      rw [PhiS_castSucc m c t, PhiS_pos m c _ _ hz]
      simp only [before0_10 m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply (step m c t (ptAt m c (t.val - 1) (Nat.lt_of_le_of_lt (Nat.sub_le _ _) t.isLt)) (midAt_next m c t hz) ((dats m 0 c).before 7 t d7) ((dats m 0 c).before 8 t d8) ((dats m 0 c).before 9 t d9) ((dats m 0 c).before 11 t d11)) $$ [H0 H1 H2 H3 H4 H5 H6 H7 H8 H9 H10 H11 HS0 HS1]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        iexact HS1
      iintro ⟨H0, H1, H2, H3, H4, H5, H6, H7, H8, H9, H10, H11, HS0, HS1⟩
      rw [if_neg h15, if_neg h15]
      isplitl [HS0 HS1 Hg]
      · isplitr [Hg]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexact H10
      iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitr [Hg]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 128 := N_0; omega)

set_option backward.isDefEq.respectTransparency.types false in
/-- The whole program, run. -/
theorem run_main_quiescent : θ_run defs (onTc (τ := τ) (main (F := F))) (s₀ m ρ) (fun r => (Pipeline.FramePost cfgs (dats m) 0 (Pipeline.afterTail₀ cfgs (dats m) 0 (V0 m) [hostOps1, hostOps1_1, hostOps1_2])) r ∧ r.2.sem = fun _ => 0) :=
  Pipeline.θ_run_frame_around_track_shared (Q' := _) cfgs (dats m) (0 : Fin 1) launch₀0 defs₀ Variants.none m ρ main
    (hbody := fun c => (body_obligation m c).loose) (hq := fun c w _ => rfl)
    (howed := fun _ _ => rfl) (V₀ := V0 m) (opss := [hostOps1, hostOps1_1, hostOps1_2]) (hsub := sfx_sub) (hfresh := sfx_fresh)
    (hkeep := sfx_keeps) (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  (θ_run defs _ _).mono (fun _ h => h.1) (run_main_quiescent m ρ)

/-- The frame: it ends, with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Swiglu.Array.lean ====
/-
  The gate gradient's result array, index by index.
-/
module

public import proofs.«01_k».proof.Proof.Gen.Kernel2Ideal.Value
public import Idealize.ShloMosaic.Lib.Pipeline.ValueKit
public import Idealize.ShloMosaic.Lib.Pointwise
public import Idealize.ShloMosaic.Lib.UnfoldOut

@[expose] public section

set_option maxRecDepth 16384

noncomputable section

namespace Cert.Proof.Swiglu

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The four arguments of device `c`. -/
abbrev dff (c : Dev nD) : S8192x1024.Idx → EReal := m ((c : Thread nD τ).loc main_arg0)
abbrev wdn (c : Dev nD) : S2816x1024.Idx → EReal := m ((c : Thread nD τ).loc main_arg1)
abbrev gat (c : Dev nD) : S8192x2816.Idx → EReal := m ((c : Thread nD τ).loc main_arg2)
abbrev upp (c : Dev nD) : S8192x2816.Idx → EReal := m ((c : Thread nD τ).loc main_arg3)

/-- The logistic function as the kernel writes it. -/
def sg (x : EReal) : EReal := Ideal.div 1 (1 + Ideal.exp (0 - x))

/-- The gradient of the hidden activation at row `r`, column `k`. -/
def da (c : Dev nD) (r : Fin 8192) (k : Fin 2816) : EReal := ∑ j : Fin 1024, dff m c (ix2 r j) * wdn m c (ix2 k j)

/-- The gradient of the gate's argument. -/
def dg (c : Dev nD) (r : Fin 8192) (k : Fin 2816) : EReal :=
  da m c r k * upp m c (ix2 r k) * (sg (gat m c (ix2 r k)) * (1 + gat m c (ix2 r k) * (1 - sg (gat m c (ix2 r k)))))

/-- The gradient of the other factor. -/
def du (c : Dev nD) (r : Fin 8192) (k : Fin 2816) : EReal := da m c r k * gat m c (ix2 r k) * sg (gat m c (ix2 r k))

/-- The two side by side. -/
def dgu (c : Dev nD) (i : S8192x5632.Idx) : EReal :=
  if h : (i 1).val < 2816 then dg m c (i 0) ⟨(i 1).val, h⟩
  else du m c (i 0) ⟨(i 1).val - 2816, by have := (i 1).isLt; change (i 1).val < 5632 at this; omega⟩

/-- Where each window's block lies. -/
theorem idx : ∀ t : Fin grid0.N, win0_0.index t = ![t.val, 0] ∧ win0_1.index t = ![0, 0] ∧ win0_2.index t = ![t.val, 0]
    ∧ win0_3.index t = ![t.val, 0] ∧ win0_4.index t = ![t.val, 0] := by decide +kernel

/-- The left half of the result at a row and a column given by their numbers. -/
theorem dgu_left (c : Dev nD) (i : S8192x5632.Idx) (r k : ℕ) (hr : r < 8192) (hk : k < 2816) (h0 : (i 0).val = r)
    (h1 : (i 1).val = k) : dgu m c i = dg m c ⟨r, hr⟩ ⟨k, hk⟩ := by
  unfold dgu
  rw [dif_pos (by rw [h1]; exact hk)]
  congr 1
  · exact Fin.ext h0
  · exact Fin.ext h1

/-- The right half. -/
theorem dgu_right (c : Dev nD) (i : S8192x5632.Idx) (r k : ℕ) (hr : r < 8192) (hk : k < 2816) (h0 : (i 0).val = r)
    (h1 : (i 1).val = 2816 + k) : dgu m c i = du m c ⟨r, hr⟩ ⟨k, hk⟩ := by
  unfold dgu
  rw [dif_neg (by rw [h1]; omega)]
  congr 1
  · exact Fin.ext h0
  · exact Fin.ext (by show (i 1).val - 2816 = k; omega)

/-- The array after the run. -/
theorem final (c : Dev nD) : (dats m 0 c).arrAt 4 cfg0.N = dgu m c := by
  refine (dats m 0 c).arrAt_eq_of_covers 4 _ (by decide +kernel) fun t hf y => ?_
  have ht : t.val < 16 := t.isLt
  have e0 : ((((cfg0.win 4).blk t).view.emb y) 0 : ℕ) = 512 * t.val + (y 0).val := by
    blk_simp [(idx t).2.2.2.2]; omega
  have e1 : ((((cfg0.win 4).blk t).view.emb y) 1 : ℕ) = (y 1).val := by
    blk_simp [(idx t).2.2.2.2]
  generalize ((cfg0.win 4).blk t).view.emb y = i at e0 e1
  rw [after0_4]
  unfold_out out0_4
  canon_tiles x h
  · have g0 : (y 0).val = (x 0).val := h0
    have g1 : (y 1).val = 4224 + (x 1).val := h1
    rw [dgu_right m c i (512 * t.val + (x 0).val) (1408 + (x 1).val) (by omega) (by omega) (by omega) (by omega)]
    unfold_payloads
    pointwise [du, da, sg]
    blk_point [iblk, V, idx t]
  · have g0 : (y 0).val = (x 0).val := h0
    have g1 : (y 1).val = 1408 + (x 1).val := h1
    rw [dgu_left m c i (512 * t.val + (x 0).val) (1408 + (x 1).val) (by omega) (by omega) (by omega) (by omega)]
    unfold_payloads
    pointwise [dg, da, sg]
    blk_point [iblk, V, idx t]
  · have g0 : (y 0).val = (x 0).val := h0
    have g1 : (y 1).val = 2816 + (x 1).val := h1
    rw [dgu_right m c i (512 * t.val + (x 0).val) (x 1).val (by omega) (by omega) (by omega) (by omega)]
    unfold_payloads
    pointwise [du, da, sg]
    blk_point [iblk, V, idx t]
  · have g0 : (y 0).val = (x 0).val := h0
    have g1 : (y 1).val = (x 1).val := h1
    rw [dgu_left m c i (512 * t.val + (x 0).val) (x 1).val (by omega) (by omega) (by omega) (by omega)]
    unfold_payloads
    pointwise [dg, da, sg]
    blk_point [iblk, V, idx t]

end Cert.Proof.Swiglu

end
-- ==== Proof.Swiglu.Value.lean ====
/-
  The gate gradient's kernel and its reference hold the same numbers.
-/
module

public import proofs.«01_k».proof.Defs
public import proofs.«01_k».proof.Proof.Swiglu.Array
public import proofs.«01_k».proof.Proof.Gen.Reference2Ideal.Run
public import proofs.«01_k».proof.Proof.Gen.Pre_finite2
public import Idealize.ShloMosaic.Lib.Claim

@[expose] public section

set_option maxRecDepth 16384

noncomputable section

namespace Cert.Proof.Swiglu

open Cert.Kernel2Ideal Cert.Kernel2Ideal.Gen Idealize.ShloMosaic Idealize.ShloMosaic.TcCoe Idealize.SL.Sem

variable (m : (ℓ : Loc nD τ sig) → Buf (Elt Ideal) ℓ)

/-- A number whose absolute value is below infinity is a real. -/
theorem coe_of_lt {x : EReal} (h : BitVec.ofBool (decide ((FloatOps.absf (F := Ideal) (φ := .f32) x : EReal) < Idealize.ShloMosaic.Ideal.ofBits .f32 0x7F800000#32)) = 1#1) :
    ∃ r : ℝ, x = r := by
  have htop : Idealize.ShloMosaic.Ideal.ofBits .f32 0x7F800000#32 = ⊤ := by simp [Idealize.ShloMosaic.Ideal.ofBits, Idealize.ShloMosaic.Ideal.ieee]
  rw [htop, WordCmp.ofBool_eq_one_iff, decide_eq_true_eq] at h
  have h' : max x (-x) < ⊤ := h
  rw [max_lt_iff] at h'
  induction x using EReal.rec with
  | bot => simp at h'
  | top => simp at h'
  | coe r => exact ⟨r, rfl⟩

/-- The first argument's numbers are reals. -/
theorem dff_real (h : Cert.Pre_Kernel2Ideal_finite2 m) (c : Dev nD) (i : S8192x1024.Idx) : ∃ r : ℝ, dff m c i = r := by
  have h := congrFun (h c).1 i
  simp only [Cert.Pre_finite2.fn] at h
  pointwise at h
  exact coe_of_lt h

/-- The second argument's. -/
theorem wdn_real (h : Cert.Pre_Kernel2Ideal_finite2 m) (c : Dev nD) (i : S2816x1024.Idx) : ∃ r : ℝ, wdn m c i = r := by
  have h := congrFun (h c).2.1 i
  simp only [Cert.Pre_finite2.fn] at h
  pointwise at h
  exact coe_of_lt h

/-- The third argument's. -/
theorem gat_real (h : Cert.Pre_Kernel2Ideal_finite2 m) (c : Dev nD) (i : S8192x2816.Idx) : ∃ r : ℝ, gat m c i = r := by
  have h := congrFun (h c).2.2.1 i
  simp only [Cert.Pre_finite2.fn] at h
  pointwise at h
  exact coe_of_lt h

/-- The fourth argument's. -/
theorem upp_real (h : Cert.Pre_Kernel2Ideal_finite2 m) (c : Dev nD) (i : S8192x2816.Idx) : ∃ r : ℝ, upp m c i = r := by
  have h := congrFun (h c).2.2.2 i
  simp only [Cert.Pre_finite2.fn] at h
  pointwise at h
  exact coe_of_lt h

/-- A finite sum of reals is a real. -/
theorem sum_real {ι : Type} (s : Finset ι) (f : ι → EReal) (h : ∀ i, ∃ r : ℝ, f i = r) : ∃ r : ℝ, ∑ i ∈ s, f i = r := by
  induction s using Finset.cons_induction with
  | empty => exact ⟨0, by simp⟩
  | cons a s ha ih =>
    obtain ⟨x, hx⟩ := h a
    obtain ⟨y, hy⟩ := ih
    exact ⟨x + y, by rw [Finset.sum_cons, hx, hy, EReal.coe_add]⟩

/-- The hidden activation's gradient is a real. -/
theorem da_real (h : Cert.Pre_Kernel2Ideal_finite2 m) (c : Dev nD) (r : Fin 8192) (k : Fin 2816) : ∃ x : ℝ, da m c r k = x :=
  sum_real _ _ fun j => by
    obtain ⟨a, ha⟩ := dff_real m h c (ix2 r j)
    obtain ⟨b, hb⟩ := wdn_real m h c (ix2 k j)
    exact ⟨a * b, by rw [ha, hb, EReal.coe_mul]⟩

/-- The logistic function of a real is a real. -/
theorem sg_real (x : ℝ) : ∃ y : ℝ, sg x = y := by
  unfold sg
  have e : (1 : EReal) + Idealize.ShloMosaic.Ideal.exp (0 - (x : EReal)) = ((1 + Real.exp (-x) : ℝ) : EReal) := by
    rw [zero_sub, ← EReal.coe_neg]
    show (1 : EReal) + ((Real.exp (-x) : ℝ) : EReal) = _
    norm_cast
  rw [e, Idealize.ShloMosaic.Ideal.div_coe (by positivity)]
  exact ⟨1 * (1 / (1 + Real.exp (-x))), by norm_cast⟩

/-- The gate's gradient as the reference has it. -/
theorem dg_eq (h : Cert.Pre_Kernel2Ideal_finite2 m) (c : Dev nD) (r : Fin 8192) (k : Fin 2816) :
    dg m c r k = da m c r k * upp m c (ix2 r k) * sg (gat m c (ix2 r k)) +
      gat m c (ix2 r k) * (da m c r k * upp m c (ix2 r k)) * (sg (gat m c (ix2 r k)) * (1 - sg (gat m c (ix2 r k)))) := by
  unfold dg
  obtain ⟨a, ha⟩ := da_real m h c r k
  obtain ⟨u, hu⟩ := upp_real m h c (ix2 r k)
  obtain ⟨g, hg⟩ := gat_real m h c (ix2 r k)
  obtain ⟨s, hs⟩ := sg_real g
  rw [ha, hu, hg, hs]
  norm_cast
  ring

/-- The other factor's. -/
theorem du_eq (c : Dev nD) (r : Fin 8192) (k : Fin 2816) :
    du m c r k = gat m c (ix2 r k) * sg (gat m c (ix2 r k)) * da m c r k := by
  unfold du
  rw [mul_assoc, mul_comm]

set_option maxHeartbeats 1000000 in
/-- The two programs' results are equal. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  pair_intro
  · run_from Cert.Kernel2Ideal.Value.run_blocks m g
  · run_from Cert.Reference2Ideal.Value.run (F := Ideal) m' g'
    rw [(hagree c).2.2.2, final m c]
    funext i
    idx_vars i
    pointwise [dgu]
    by_cases hl : i1.val < 2816
    · rw [dif_pos hl, dif_pos hl, dg_eq m hpre]
      simp only [sg, da, zero_sub]
    · rw [dif_neg hl, dif_neg hl, du_eq m]
      simp only [sg, da, zero_sub]

end Cert.Proof.Swiglu

end
-- ==== Proof.Products.DH2.lean ====
/-
  The gradient of the gated MLP's input, a product accumulated over four blocks, is the product.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DH2

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x5632.Idx → EReal := m ((c : Thread nD τ).loc main_arg0)
abbrev rhs (c : Dev nD) : S5632x1024.Idx → EReal := m ((c : Thread nD τ).loc main_arg1)

/-- Their blocks at point `t`. -/
abbrev lblk (c : Dev nD) (t : Fin cfg0.N) : S1024x1408.Idx → EReal := iblk m c 0 t
abbrev rblk (c : Dev nD) (t : Fin cfg0.N) : S1408x1024.Idx → EReal := iblk m c 1 t

/-- The product of the arguments. -/
def prod (c : Dev nD) (i : S8192x1024.Idx) : EReal := ∑ k : Fin 5632, lhs m c (ix2 (i 0) k) * rhs m c (ix2 k (i 1))

/-- What point `t` adds. -/
def term (c : Dev nD) (t : Fin cfg0.N) (j : S1024x1024.Idx) : EReal :=
  ∑ k : Fin 1408, lblk m c t (ix2 (j 0) k) * rblk m c t (ix2 k (j 1))

/-- Where each window's block lies. -/
theorem idx : ∀ t : Fin grid0.N, win0_0.index t = ![t.val / 4, t.val % 4] ∧ win0_1.index t = ![t.val % 4, 0]
    ∧ win0_2.index t = ![t.val / 4, 0] := by decide +kernel

/-- The first point of a run stores its term. -/
theorem first (c : Dev nD) (t : Fin cfg0.N) (h : t.val % 4 = 0) (j : S1024x1024.Idx) :
    (outsAt0 m c t.val t.isLt).2 j = 0 + term m c t j := by
  rw [outsAt0_A m c t h (by omega) (by omega)]
  dsimp only
  frame_out
  unfold_payloads
  pointwise [term]

/-- A later point adds its own to what the point before left. -/
theorem later (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + term m c t j := by
  by_cases h2 : t.val % 4 = 3
  · rw [outsAt0_C m c t h (by omega) h2]
    dsimp only
    frame_out
    simp only [read_unread_whole]
    unfold_payloads
    pointwise [term, lblk, rblk]
  · rw [outsAt0_B m c t h (by omega) h2]
    dsimp only
    frame_out
    simp only [read_unread_whole]
    unfold_payloads
    pointwise [term, lblk, rblk]

/-- The last point of a run writes the sum. -/
theorem last (c : Dev nD) (t : Fin cfg0.N) (h : t.val % 4 = 3) (j : S1024x1024.Idx) :
    (outsAt0 m c t.val t.isLt).1 j = (outsAt0 m c t.val t.isLt).2 j := by
  rw [outsAt0_C m c t (by omega) (by omega) h]
  dsimp only
  frame_out

/-- The array after the run. -/
theorem final (c : Dev nD) : (dats m 0 c).arrAt 2 cfg0.N = prod m c := by
  refine (dats m 0 c).arrAt_eq_of_covers 2 _ (by decide +kernel) fun t hf y => ?_
  have ht : t.val < 32 := t.isLt
  have h3 : t.val % 4 = 3 := (flush0_2 t).mp hf
  rw [after0_2]
  blk_simp
  refine (last m c t h3 _).trans ?_
  rw [Pipeline.eq_sum_fin_of_reset_step_apply_of_flush (fun n h => (outsAt0 m c n h).2) 4 (fun _ => 0) (term m c)
    (first m c) (later m c) t h3, zero_add]
  unfold prod term
  refine Fin.sum_mul_add_congr fun s k hl => ?_
  blk_point [iblk, V, idx]

set_option maxHeartbeats 1000000 in
/-- The two programs' results are equal. -/
theorem algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run (F := Ideal) m' g'
    rw [final m c]
    funext i
    idx_vars i
    pointwise [prod]

end Cert.Proof.Products.DH2

end
-- ==== Proof.Products.DWGateUp.lean ====
/-
  The gradient of the gate and up projections' weights, a product accumulated over eight blocks of rows, is the product.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DWGateUp

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x5632.Idx → EReal := m ((c : Thread nD τ).loc main_arg0)
abbrev rhs (c : Dev nD) : S8192x1024.Idx → EReal := m ((c : Thread nD τ).loc main_arg1)

/-- Their blocks at point `t`. -/
abbrev lblk (c : Dev nD) (t : Fin cfg0.N) : S1024x1408.Idx → EReal := iblk m c 0 t
abbrev rblk (c : Dev nD) (t : Fin cfg0.N) : S1024x1024.Idx → EReal := iblk m c 1 t

/-- The product of the arguments. -/
def prod (c : Dev nD) (i : S5632x1024.Idx) : EReal := ∑ k : Fin 8192, lhs m c (ix2 k (i 0)) * rhs m c (ix2 k (i 1))

/-- What point `t` adds. -/
def term (c : Dev nD) (t : Fin cfg0.N) (j : S1408x1024.Idx) : EReal :=
  ∑ k : Fin 1024, lblk m c t (ix2 k (j 0)) * rblk m c t (ix2 k (j 1))

/-- Where each window's block lies. -/
theorem idx : ∀ t : Fin grid0.N, win0_0.index t = ![t.val % 8, t.val / 8] ∧ win0_1.index t = ![t.val % 8, 0]
    ∧ win0_2.index t = ![t.val / 8, 0] := by decide +kernel

/-- The first point of a run stores its term. -/
theorem first (c : Dev nD) (t : Fin cfg0.N) (h : t.val % 8 = 0) (j : S1408x1024.Idx) :
    (outsAt0 m c t.val t.isLt).2 j = 0 + term m c t j := by
  rw [outsAt0_A m c t h (by omega) (by omega)]
  dsimp only
  frame_out
  unfold_payloads
  pointwise [term]

/-- A later point adds its own to what the point before left. -/
theorem later (c : Dev nD) (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j + term m c t j := by
  by_cases h2 : t.val % 8 = 7
  · rw [outsAt0_C m c t h (by omega) h2]
    dsimp only
    frame_out
    simp only [read_unread_whole]
    unfold_payloads
    pointwise [term, lblk, rblk]
  · rw [outsAt0_B m c t h (by omega) h2]
    dsimp only
    frame_out
    simp only [read_unread_whole]
    unfold_payloads
    pointwise [term, lblk, rblk]

/-- The last point of a run writes the sum. -/
theorem last (c : Dev nD) (t : Fin cfg0.N) (h : t.val % 8 = 7) (j : S1408x1024.Idx) :
    (outsAt0 m c t.val t.isLt).1 j = (outsAt0 m c t.val t.isLt).2 j := by
  rw [outsAt0_C m c t (by omega) (by omega) h]
  dsimp only
  frame_out
  rfl

/-- The array after the run. -/
theorem final (c : Dev nD) : (dats m 0 c).arrAt 2 cfg0.N = prod m c := by
  refine (dats m 0 c).arrAt_eq_of_covers 2 _ (by decide +kernel) fun t hf y => ?_
  have ht : t.val < 32 := t.isLt
  have h7 : t.val % 8 = 7 := (flush0_2 t).mp hf
  rw [after0_2]
  blk_simp
  refine (last m c t h7 _).trans ?_
  rw [Pipeline.eq_sum_fin_of_reset_step_apply_of_flush (fun n h => (outsAt0 m c n h).2) 8 (fun _ => 0) (term m c)
    (first m c) (later m c) t h7, zero_add]
  unfold prod term
  refine Fin.sum_mul_add_congr fun s k hl => ?_
  blk_point [iblk, V, idx]

set_option maxHeartbeats 1000000 in
/-- The two programs' results are equal. -/
theorem algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run (F := Ideal) m' g'
    rw [final m c]
    funext i
    idx_vars i
    pointwise [prod]

end Cert.Proof.Products.DWGateUp

end
-- ==== Proof.Products.DWDown.lean ====
/-
  The gradient of the down projection's weights, a product accumulated over eight blocks of rows, is the product.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DWDown

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x2816.Idx → EReal := m ((c : Thread nD τ).loc main_arg0)
abbrev rhs (c : Dev nD) : S8192x1024.Idx → EReal := m ((c : Thread nD τ).loc main_arg1)

/-- Their blocks at point `t`. -/
abbrev lblk (c : Dev nD) (t : Fin cfg0.N) : S1024x1408.Idx → EReal := iblk m c 0 t
abbrev rblk (c : Dev nD) (t : Fin cfg0.N) : S1024x1024.Idx → EReal := iblk m c 1 t

/-- The product of the arguments. -/
def prod (c : Dev nD) (i : S2816x1024.Idx) : EReal := ∑ k : Fin 8192, lhs m c (ix2 k (i 0)) * rhs m c (ix2 k (i 1))

/-- What point `t` adds. -/
def term (c : Dev nD) (t : Fin cfg0.N) (j : S1408x1024.Idx) : EReal :=
  ∑ k : Fin 1024, lblk m c t (ix2 k (j 0)) * rblk m c t (ix2 k (j 1))

/-- Where each window's block lies. -/
theorem idx : ∀ t : Fin grid0.N, win0_0.index t = ![t.val % 8, t.val / 8] ∧ win0_1.index t = ![t.val % 8, 0]
    ∧ win0_2.index t = ![t.val / 8, 0] := by decide +kernel

/-- The first point of a run stores its term. -/
theorem first (c : Dev nD) (t : Fin cfg0.N) (h : t.val % 8 = 0) (j : S1408x1024.Idx) :
    (outsAt0 m c t.val t.isLt).2 j = 0 + term m c t j := by
  rw [outsAt0_A m c t h (by omega) (by omega)]
  dsimp only
  frame_out
  unfold_payloads
  pointwise [term]

/-- A later point adds its own to what the point before left. -/
theorem later (c : Dev nD) (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j + term m c t j := by
  by_cases h2 : t.val % 8 = 7
  · rw [outsAt0_C m c t h (by omega) h2]
    dsimp only
    frame_out
    simp only [read_unread_whole]
    unfold_payloads
    pointwise [term, lblk, rblk]
  · rw [outsAt0_B m c t h (by omega) h2]
    dsimp only
    frame_out
    simp only [read_unread_whole]
    unfold_payloads
    pointwise [term, lblk, rblk]

/-- The last point of a run writes the sum. -/
theorem last (c : Dev nD) (t : Fin cfg0.N) (h : t.val % 8 = 7) (j : S1408x1024.Idx) :
    (outsAt0 m c t.val t.isLt).1 j = (outsAt0 m c t.val t.isLt).2 j := by
  rw [outsAt0_C m c t (by omega) (by omega) h]
  dsimp only
  frame_out
  rfl

/-- The array after the run. -/
theorem final (c : Dev nD) : (dats m 0 c).arrAt 2 cfg0.N = prod m c := by
  refine (dats m 0 c).arrAt_eq_of_covers 2 _ (by decide +kernel) fun t hf y => ?_
  have ht : t.val < 16 := t.isLt
  have h7 : t.val % 8 = 7 := (flush0_2 t).mp hf
  rw [after0_2]
  blk_simp
  refine (last m c t h7 _).trans ?_
  rw [Pipeline.eq_sum_fin_of_reset_step_apply_of_flush (fun n h => (outsAt0 m c n h).2) 8 (fun _ => 0) (term m c)
    (first m c) (later m c) t h7, zero_add]
  unfold prod term
  refine Fin.sum_mul_add_congr fun s k hl => ?_
  blk_point [iblk, V, idx]

set_option maxHeartbeats 1000000 in
/-- The two programs' results are equal. -/
theorem algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run (F := Ideal) m' g'
    rw [final m c]
    funext i
    idx_vars i
    pointwise [prod]
    exact Finset.sum_congr rfl fun k _ => mul_comm _ _

end Cert.Proof.Products.DWDown

end
-- ==== Proof.Products.DWProj.lean ====
/-
  The gradient of a square projection's weights, a product accumulated over eight blocks of rows, is the product.
-/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DWProj

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x1024.Idx → EReal := m ((c : Thread nD τ).loc main_arg0)
abbrev rhs (c : Dev nD) : S8192x1024.Idx → EReal := m ((c : Thread nD τ).loc main_arg1)

/-- Their blocks at point `t`. -/
abbrev lblk (c : Dev nD) (t : Fin cfg0.N) : S1024x1024.Idx → EReal := iblk m c 0 t
abbrev rblk (c : Dev nD) (t : Fin cfg0.N) : S1024x1024.Idx → EReal := iblk m c 1 t

/-- The product of the arguments. -/
def prod (c : Dev nD) (i : S1024x1024.Idx) : EReal := ∑ k : Fin 8192, lhs m c (ix2 k (i 0)) * rhs m c (ix2 k (i 1))

/-- What point `t` adds. -/
def term (c : Dev nD) (t : Fin cfg0.N) (j : S1024x1024.Idx) : EReal :=
  ∑ k : Fin 1024, lblk m c t (ix2 k (j 0)) * rblk m c t (ix2 k (j 1))

/-- Where each window's block lies. -/
theorem idx : ∀ t : Fin grid0.N, win0_0.index t = ![t.val % 8, t.val / 8] ∧ win0_1.index t = ![t.val % 8, 0]
    ∧ win0_2.index t = ![t.val / 8, 0] := by decide +kernel

/-- The first point of a run stores its term. -/
theorem first (c : Dev nD) (t : Fin cfg0.N) (h : t.val % 8 = 0) (j : S1024x1024.Idx) :
    (outsAt0 m c t.val t.isLt).2 j = 0 + term m c t j := by
  have ht : t.val < 8 := t.isLt
  rw [outsAt0_A m c t h (by omega) (by omega)]
  dsimp only
  frame_out
  unfold_payloads
  pointwise [term]

/-- A later point adds its own to what the point before left. -/
theorem later (c : Dev nD) (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + term m c t j := by
  by_cases h2 : t.val % 8 = 7
  · rw [outsAt0_C m c t h (by omega) h2]
    dsimp only
    frame_out
    simp only [read_unread_whole]
    unfold_payloads
    pointwise [term, lblk, rblk]
  · rw [outsAt0_B m c t h (by omega) h2]
    dsimp only
    frame_out
    simp only [read_unread_whole]
    unfold_payloads
    pointwise [term, lblk, rblk]

/-- The last point of a run writes the sum. -/
theorem last (c : Dev nD) (t : Fin cfg0.N) (h : t.val % 8 = 7) (j : S1024x1024.Idx) :
    (outsAt0 m c t.val t.isLt).1 j = (outsAt0 m c t.val t.isLt).2 j := by
  rw [outsAt0_C m c t (by omega) (by omega) h]
  dsimp only
  frame_out
  rfl

/-- The array after the run. -/
theorem final (c : Dev nD) : (dats m 0 c).arrAt 2 cfg0.N = prod m c := by
  refine (dats m 0 c).arrAt_eq_of_covers 2 _ (by decide +kernel) fun t hf y => ?_
  have ht : t.val < 8 := t.isLt
  have h7 : t.val % 8 = 7 := (flush0_2 t).mp hf
  rw [after0_2]
  blk_simp
  refine (last m c t h7 _).trans ?_
  rw [Pipeline.eq_sum_fin_of_reset_step_apply_of_flush (fun n h => (outsAt0 m c n h).2) 8 (fun _ => 0) (term m c)
    (first m c) (later m c) t h7, zero_add]
  unfold prod term
  refine Fin.sum_mul_add_congr fun s k hl => ?_
  blk_point [iblk, V, idx]

set_option maxHeartbeats 1000000 in
/-- The two programs' results are equal. -/
theorem algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run (F := Ideal) m' g'
    rw [final m c]
    funext i
    idx_vars i
    pointwise [prod]
    exact Finset.sum_congr rfl fun k _ => mul_comm _ _

end Cert.Proof.Products.DWProj

end
-- ==== Proof.Products.DO.lean ====
/-
  The gradient of a square projection's input is the product with the transposed weights.
-/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DO

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x1024.Idx → EReal := m ((c : Thread nD τ).loc main_arg0)
abbrev rhs (c : Dev nD) : S1024x1024.Idx → EReal := m ((c : Thread nD τ).loc main_arg1)

/-- The product of the arguments. -/
def prod (c : Dev nD) (i : S8192x1024.Idx) : EReal := ∑ k : Fin 1024, lhs m c (ix2 (i 0) k) * rhs m c (ix2 (i 1) k)

/-- Where each window's block lies. -/
theorem idx : ∀ t : Fin grid0.N, win0_0.index t = ![t.val, 0] ∧ win0_1.index t = ![0, 0] ∧ win0_2.index t = ![t.val, 0] := by
  decide +kernel

/-- The array after the run. -/
theorem final (c : Dev nD) : (dats m 0 c).arrAt 2 cfg0.N = prod m c := by
  refine (dats m 0 c).arrAt_eq_of_covers 2 _ (by decide +kernel) fun t hf y => ?_
  have ht : t.val < 8 := t.isLt
  blk_simp
  rw [after0_2]
  frame_out
  unfold_payloads
  pointwise [prod]
  blk_point [iblk, V, idx t]

set_option maxHeartbeats 1000000 in
/-- The two programs' results are equal. -/
theorem algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run (F := Ideal) m' g'
    rw [final m c]
    funext i
    idx_vars i
    pointwise [prod]

end Cert.Proof.Products.DO

end
-- ==== Proof.Products.DH.lean ====
/-
  The gradient of the mixers' input: six gradients side by side times the transposed weights, block after block, is the
  product of their concatenation.
-/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DH

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The six gradients and the weights of device `c`. -/
abbrev a0 (c : Dev nD) : S8192x1024.Idx → EReal := m ((c : Thread nD τ).loc main_arg0)
abbrev a1 (c : Dev nD) : S8192x1024.Idx → EReal := m ((c : Thread nD τ).loc main_arg1)
abbrev a2 (c : Dev nD) : S8192x1024.Idx → EReal := m ((c : Thread nD τ).loc main_arg2)
abbrev a3 (c : Dev nD) : S8192x2048.Idx → EReal := m ((c : Thread nD τ).loc main_arg3)
abbrev a4 (c : Dev nD) : S8192x1024.Idx → EReal := m ((c : Thread nD τ).loc main_arg4)
abbrev a5 (c : Dev nD) : S8192x3072.Idx → EReal := m ((c : Thread nD τ).loc main_arg5)
abbrev wts (c : Dev nD) : S9216x1024.Idx → EReal := m ((c : Thread nD τ).loc main_arg6)

/-- Their blocks at point `t`. -/
abbrev b0 (c : Dev nD) (t : Fin cfg0.N) : S1024x1024.Idx → EReal := iblk m c 0 t
abbrev b1 (c : Dev nD) (t : Fin cfg0.N) : S1024x1024.Idx → EReal := iblk m c 1 t
abbrev b2 (c : Dev nD) (t : Fin cfg0.N) : S1024x1024.Idx → EReal := iblk m c 2 t
abbrev b3 (c : Dev nD) (t : Fin cfg0.N) : S1024x1024.Idx → EReal := iblk m c 3 t
abbrev b4 (c : Dev nD) (t : Fin cfg0.N) : S1024x1024.Idx → EReal := iblk m c 4 t
abbrev b5 (c : Dev nD) (t : Fin cfg0.N) : S1024x1024.Idx → EReal := iblk m c 5 t
abbrev bw (c : Dev nD) (t : Fin cfg0.N) : S1024x1024.Idx → EReal := iblk m c 6 t

/-- The six gradients side by side. -/
def cat (c : Dev nD) (r : Fin 8192) (l : Fin 9216) : EReal :=
  if h : l.val < 1024 then a0 m c (ix2 r ⟨l.val, h⟩)
  else if h : l.val - 1024 < 1024 then a1 m c (ix2 r ⟨l.val - 1024, h⟩)
  else if h : l.val - 1024 - 1024 < 1024 then a2 m c (ix2 r ⟨l.val - 1024 - 1024, h⟩)
  else if h : l.val - 1024 - 1024 - 1024 < 2048 then a3 m c (ix2 r ⟨l.val - 1024 - 1024 - 1024, h⟩)
  else if h : l.val - 1024 - 1024 - 1024 - 2048 < 1024 then a4 m c (ix2 r ⟨l.val - 1024 - 1024 - 1024 - 2048, h⟩)
  else a5 m c (ix2 r ⟨l.val - 1024 - 1024 - 1024 - 2048 - 1024, by have := l.isLt; omega⟩)

/-- The product. -/
def prod (c : Dev nD) (i : S8192x1024.Idx) : EReal := ∑ l : Fin 9216, cat m c (i 0) l * wts m c (ix2 l (i 1))

/-- The block of the six that point `t` takes. -/
def pick (c : Dev nD) (t : Fin cfg0.N) : S1024x1024.Idx → EReal :=
  if t.val % 9 = 0 then b0 m c t else if t.val % 9 = 1 then b1 m c t else if t.val % 9 = 2 then b2 m c t
  else if t.val % 9 ≤ 4 then b3 m c t else if t.val % 9 = 5 then b4 m c t else b5 m c t

/-- What point `t` adds. -/
def term (c : Dev nD) (t : Fin cfg0.N) (j : S1024x1024.Idx) : EReal :=
  ∑ k : Fin 1024, pick m c t (ix2 (j 0) k) * bw m c t (ix2 k (j 1))

/-- Where each window's block lies. -/
theorem idx : ∀ t : Fin grid0.N, win0_0.index t = ![t.val / 9, 0] ∧ win0_1.index t = ![t.val / 9, 0]
    ∧ win0_2.index t = ![t.val / 9, 0] ∧ win0_3.index t = ![t.val / 9, min (t.val % 9 - 3) 1] ∧ win0_4.index t = ![t.val / 9, 0]
    ∧ win0_5.index t = ![t.val / 9, min (t.val % 9 - 6) 2] ∧ win0_6.index t = ![t.val % 9, 0]
    ∧ win0_7.index t = ![t.val / 9, 0] := by decide +kernel

/-- The first point of a run stores its term. -/
theorem first (c : Dev nD) (t : Fin cfg0.N) (h : t.val % 9 = 0) (j : S1024x1024.Idx) :
    (outsAt0 m c t.val t.isLt).2 j = 0 + term m c t j := by
  have e : pick m c t = b0 m c t := by unfold pick; rw [if_pos h]
  rw [outsAt0_A m c t h h (by omega) (by omega) (by omega) (by omega) (by omega) (by omega) (by omega)]
  dsimp only
  frame_out
  unfold_payloads
  pointwise [term, e, b0, bw]

/-- A later point adds its own to what the point before left. -/
theorem later (c : Dev nD) (t : Fin cfg0.N) (h : ¬t.val % 9 = 0) (j : S1024x1024.Idx) :
    (outsAt0 m c t.val t.isLt).2 j = (outsAt0 m c (t.val - 1) (Nat.lt_of_le_of_lt (Nat.sub_le _ _) t.isLt)).2 j + term m c t j := by
  by_cases h1 : t.val % 9 = 1
  · have e : pick m c t = b1 m c t := by unfold pick; rw [if_neg h, if_pos h1]
    rw [outsAt0_B m c t h h1 (by omega) (by omega) (by omega) (by omega) (by omega) h (by omega)]
    dsimp only
    frame_out
    simp only [read_unread_whole]
    unfold_payloads
    pointwise [term, e, b1, bw]
  by_cases h2 : t.val % 9 = 2
  · have e : pick m c t = b2 m c t := by unfold pick; rw [if_neg h, if_neg h1, if_pos h2]
    rw [outsAt0_C m c t h h1 h2 (by omega) (by omega) (by omega) (by omega) h (by omega)]
    dsimp only
    frame_out
    simp only [read_unread_whole]
    unfold_payloads
    pointwise [term, e, b2, bw]
  by_cases h4 : t.val % 9 ≤ 4
  · have e : pick m c t = b3 m c t := by unfold pick; rw [if_neg h, if_neg h1, if_neg h2, if_pos h4]
    rw [outsAt0_D m c t h h1 h2 (by omega) (by omega) (by omega) (by omega) h (by omega)]
    dsimp only
    frame_out
    simp only [read_unread_whole]
    unfold_payloads
    pointwise [term, e, b3, bw]
  by_cases h5 : t.val % 9 = 5
  · have e : pick m c t = b4 m c t := by unfold pick; rw [if_neg h, if_neg h1, if_neg h2, if_neg h4, if_pos h5]
    rw [outsAt0_E m c t h h1 h2 (by omega) h5 (by omega) (by omega) h (by omega)]
    dsimp only
    frame_out
    simp only [read_unread_whole]
    unfold_payloads
    pointwise [term, e, b4, bw]
  have e : pick m c t = b5 m c t := by unfold pick; rw [if_neg h, if_neg h1, if_neg h2, if_neg h4, if_neg h5]
  by_cases h8 : t.val % 9 = 8
  · rw [outsAt0_G m c t h h1 h2 (by omega) h5 (by omega) h8 h (by omega)]
    dsimp only
    frame_out
    simp only [read_unread_whole]
    unfold_payloads
    pointwise [term, e, b5, bw]
  · rw [outsAt0_F m c t h h1 h2 (by omega) h5 (by omega) h8 h (by omega)]
    dsimp only
    frame_out
    simp only [read_unread_whole]
    unfold_payloads
    pointwise [term, e, b5, bw]

/-- The last point of a run writes the sum. -/
theorem last (c : Dev nD) (t : Fin cfg0.N) (h : t.val % 9 = 8) (j : S1024x1024.Idx) :
    (outsAt0 m c t.val t.isLt).1 j = (outsAt0 m c t.val t.isLt).2 j := by
  rw [outsAt0_G m c t (by omega) (by omega) (by omega) (by omega) (by omega) (by omega) h (by omega) (by omega)]
  dsimp only
  frame_out

/-- The block taken, in the arrays. -/
theorem pick_eq (c : Dev nD) (t : Fin cfg0.N) (y k : Fin 1024) (r : Fin 8192) (l : Fin 9216) (hr : r.val = 1024 * (t.val / 9) + y.val)
    (hl : l.val = 1024 * (t.val % 9) + k.val) : pick m c t (ix2 y k) = cat m c r l := by
  have hk := k.isLt
  have ht : t.val < 72 := t.isLt
  unfold pick cat
  by_cases h : t.val % 9 = 0
  · rw [if_pos h, dif_pos (by omega)]
    blk_point [iblk, V, idx t]
  by_cases h1 : t.val % 9 = 1
  · rw [if_neg h, if_pos h1, dif_neg (by omega), dif_pos (by omega)]
    blk_point [iblk, V, idx t]
  by_cases h2 : t.val % 9 = 2
  · rw [if_neg h, if_neg h1, if_pos h2, dif_neg (by omega), dif_neg (by omega), dif_pos (by omega)]
    blk_point [iblk, V, idx t]
  by_cases h4 : t.val % 9 ≤ 4
  · rw [if_neg h, if_neg h1, if_neg h2, if_pos h4, dif_neg (by omega), dif_neg (by omega), dif_neg (by omega), dif_pos (by omega)]
    blk_point [iblk, V, idx t]
  by_cases h5 : t.val % 9 = 5
  · rw [if_neg h, if_neg h1, if_neg h2, if_neg h4, if_pos h5, dif_neg (by omega), dif_neg (by omega), dif_neg (by omega),
      dif_neg (by omega), dif_pos (by omega)]
    blk_point [iblk, V, idx t]
  · rw [if_neg h, if_neg h1, if_neg h2, if_neg h4, if_neg h5, dif_neg (by omega), dif_neg (by omega), dif_neg (by omega),
      dif_neg (by omega), dif_neg (by omega)]
    blk_point [iblk, V, idx t]

/-- The array after the run. -/
theorem final (c : Dev nD) : (dats m 0 c).arrAt 7 cfg0.N = prod m c := by
  refine (dats m 0 c).arrAt_eq_of_covers 7 _ (by decide +kernel) fun t hf y => ?_
  have ht : t.val < 72 := t.isLt
  have h8 : t.val % 9 = 8 := (flush0_7 t).mp hf
  have e0 : ((((cfg0.win 7).blk t).view.emb y) 0 : ℕ) = 1024 * (t.val / 9) + (y 0).val := by
    blk_simp [(idx t).2.2.2.2.2.2.2]; omega
  have e1 : ((((cfg0.win 7).blk t).view.emb y) 1 : ℕ) = (y 1).val := by
    blk_simp [(idx t).2.2.2.2.2.2.2]
  generalize ((cfg0.win 7).blk t).view.emb y = i at e0 e1
  rw [after0_7]
  blk_simp
  refine (last m c t h8 _).trans ?_
  rw [Pipeline.eq_sum_fin_of_reset_step_apply_of_flush (fun n h => (outsAt0 m c n h).2) 9 (fun _ => 0) (term m c)
    (first m c) (later m c) t h8, zero_add]
  unfold prod term
  refine Fin.sum_mul_add_congr fun s k hl => ?_
  have hs := s.isLt
  congr 1
  · exact pick_eq m c _ _ _ _ _ (by show _ = 1024 * ((9 * (t.val / 9) + s.val) / 9) + (y 0).val; omega)
      (by show s.val * 1024 + k.val = 1024 * ((9 * (t.val / 9) + s.val) % 9) + k.val; omega)
  · blk_ext [iblk, V, idx]

set_option maxHeartbeats 1000000 in
/-- The two programs' results are equal. -/
theorem algebraic : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run (F := Ideal) m' g'
    rw [(hagree c).2.2.2.2.1, (hagree c).2.2.2.2.2.1, final m c]
    funext i
    idx_vars i
    pointwise [prod, cat]

end Cert.Proof.Products.DH

end
-- ==== Proof.Products.ProjIn.lean ====
/-
  The input projections' product, computed block by block, is the product.
-/
module

public import proofs.«01_k».proof.Defs
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.ProjIn

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x1024.Idx → EReal := m ((c : Thread nD τ).loc main_arg0)
abbrev rhs (c : Dev nD) : S9216x1024.Idx → EReal := m ((c : Thread nD τ).loc main_arg1)

/-- The product of the arguments. -/
def prod (c : Dev nD) (i : S8192x9216.Idx) : EReal := ∑ k : Fin 1024, lhs m c (ix2 (i 0) k) * rhs m c (ix2 (i 1) k)

/-- Where each window's block lies. -/
theorem idx : ∀ t : Fin grid0.N, win0_0.index t = ![t.val % 4, 0] ∧ win0_1.index t = ![t.val / 4, 0]
    ∧ win0_2.index t = ![t.val % 4, t.val / 4] := by
  decide +kernel

/-- The array after the run. -/
theorem final (c : Dev nD) : (dats m 0 c).arrAt 2 cfg0.N = prod m c := by
  refine (dats m 0 c).arrAt_eq_of_covers 2 _ (by decide +kernel) fun t hf y => ?_
  have ht : t.val < 36 := t.isLt
  blk_simp
  rw [after0_2]
  frame_out
  unfold_payloads
  pointwise [prod]
  blk_point [iblk, V, idx t]

set_option maxHeartbeats 1000000 in
/-- The two programs' results are equal. -/
theorem algebraic : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run (F := Ideal) m' g'
    rw [final m c]
    funext i
    idx_vars i
    pointwise [prod]

end Cert.Proof.Products.ProjIn

end
-- ==== Proof.Products.FFNDown.lean ====
/-
  The gated MLP's down projection, a product accumulated over two blocks, is the product.
-/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.FFNDown

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x2816.Idx → EReal := m ((c : Thread nD τ).loc main_arg0)
abbrev rhs (c : Dev nD) : S2816x1024.Idx → EReal := m ((c : Thread nD τ).loc main_arg1)

/-- Their blocks at point `t`. -/
abbrev lblk (c : Dev nD) (t : Fin cfg0.N) : S1024x1408.Idx → EReal := iblk m c 0 t
abbrev rblk (c : Dev nD) (t : Fin cfg0.N) : S1408x1024.Idx → EReal := iblk m c 1 t

/-- The product of the arguments. -/
def prod (c : Dev nD) (i : S8192x1024.Idx) : EReal := ∑ k : Fin 2816, lhs m c (ix2 (i 0) k) * rhs m c (ix2 k (i 1))

/-- What point `t` adds. -/
def term (c : Dev nD) (t : Fin cfg0.N) (j : S1024x1024.Idx) : EReal :=
  ∑ k : Fin 1408, lblk m c t (ix2 (j 0) k) * rblk m c t (ix2 k (j 1))

/-- Where each window's block lies. -/
theorem idx : ∀ t : Fin grid0.N, win0_0.index t = ![t.val / 2, t.val % 2] ∧ win0_1.index t = ![t.val % 2, 0]
    ∧ win0_2.index t = ![t.val / 2, 0] := by decide +kernel

/-- The first point of a run stores its term. -/
theorem first (c : Dev nD) (t : Fin cfg0.N) (h : t.val % 2 = 0) (j : S1024x1024.Idx) :
    (outsAt0 m c t.val t.isLt).2 j = 0 + term m c t j := by
  rw [outsAt0_A m c t h (by omega) (by omega)]
  dsimp only
  frame_out
  unfold_payloads
  pointwise [term]

/-- A later point adds its own to what the point before left. -/
theorem later (c : Dev nD) (t : Fin cfg0.N) (h : ¬t.val % 2 = 0) (j : S1024x1024.Idx) :
    (outsAt0 m c t.val t.isLt).2 j = (outsAt0 m c (t.val - 1) (Nat.lt_of_le_of_lt (Nat.sub_le _ _) t.isLt)).2 j + term m c t j := by
  rw [outsAt0_B m c t h (by omega) (by omega)]
  dsimp only
  frame_out
  simp only [read_unread_whole]
  unfold_payloads
  pointwise [term, lblk, rblk]

/-- The last point of a run writes the sum. -/
theorem last (c : Dev nD) (t : Fin cfg0.N) (h : t.val % 2 = 1) (j : S1024x1024.Idx) :
    (outsAt0 m c t.val t.isLt).1 j = (outsAt0 m c t.val t.isLt).2 j := by
  rw [outsAt0_B m c t (by omega) h h]
  dsimp only
  frame_out

/-- The array after the run. -/
theorem final (c : Dev nD) : (dats m 0 c).arrAt 2 cfg0.N = prod m c := by
  refine (dats m 0 c).arrAt_eq_of_covers 2 _ (by decide +kernel) fun t hf y => ?_
  have ht : t.val < 16 := t.isLt
  have h1 : t.val % 2 = 1 := (flush0_2 t).mp hf
  rw [after0_2]
  blk_simp
  refine (last m c t h1 _).trans ?_
  rw [Pipeline.eq_sum_fin_of_reset_step_apply_of_flush (fun n h => (outsAt0 m c n h).2) 2 (fun _ => 0) (term m c)
    (first m c) (later m c) t h1, zero_add]
  unfold prod term
  refine Fin.sum_mul_add_congr fun s k hl => ?_
  blk_point [iblk, V, idx]

set_option maxHeartbeats 1000000 in
/-- The two programs' results are equal. -/
theorem algebraic : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run (F := Ideal) m' g'
    rw [final m c]
    funext i
    idx_vars i
    pointwise [prod]

end Cert.Proof.Products.FFNDown

end
-- ==== Proof.Products.DOConv.lean ====
/-
  The gradient of the convolution branch's output is the product with the transposed weights.
-/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.DOConv

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x1024.Idx → EReal := m ((c : Thread nD τ).loc main_arg0)
abbrev rhs (c : Dev nD) : S1024x1024.Idx → EReal := m ((c : Thread nD τ).loc main_arg1)

/-- The product of the arguments. -/
def prod (c : Dev nD) (i : S8192x1024.Idx) : EReal := ∑ k : Fin 1024, lhs m c (ix2 (i 0) k) * rhs m c (ix2 (i 1) k)

/-- Where each window's block lies. -/
theorem idx : ∀ t : Fin grid0.N, win0_0.index t = ![t.val, 0] ∧ win0_1.index t = ![0, 0] ∧ win0_2.index t = ![t.val, 0] := by
  decide +kernel

/-- The array after the run. -/
theorem final (c : Dev nD) : (dats m 0 c).arrAt 2 cfg0.N = prod m c := by
  refine (dats m 0 c).arrAt_eq_of_covers 2 _ (by decide +kernel) fun t hf y => ?_
  have ht : t.val < 8 := t.isLt
  blk_simp
  rw [after0_2]
  frame_out
  unfold_payloads
  pointwise [prod]
  blk_point [iblk, V, idx t]

set_option maxHeartbeats 1000000 in
/-- The two programs' results are equal. -/
theorem algebraic : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run (F := Ideal) m' g'
    rw [final m c]
    funext i
    idx_vars i
    pointwise [prod]

end Cert.Proof.Products.DOConv

end
-- ==== Proof.Products.SwigluFwd.lean ====
/-
  The gated MLP's forward call: the gate, the other factor and their product.
-/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Pipeline.ReadBack
public import Idealize.ShloMosaic.Lib.Claim

@[expose] public section

set_option maxRecDepth 16384

noncomputable section

namespace Cert.Proof.Products.SwigluFwd

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The two arguments of device `c`. -/
abbrev lhs (c : Dev nD) : S8192x1024.Idx → EReal := m ((c : Thread nD τ).loc main_arg0)
abbrev rhs (c : Dev nD) : S5632x1024.Idx → EReal := m ((c : Thread nD τ).loc main_arg1)

/-- Row `r` of the first times row `k` of the second. -/
def dot (c : Dev nD) (r : Fin 8192) (k : Fin 5632) : EReal := ∑ j : Fin 1024, lhs m c (ix2 r j) * rhs m c (ix2 k j)

/-- The gate. -/
def gate (c : Dev nD) (i : S8192x2816.Idx) : EReal :=
  dot m c (i 0) ⟨(i 1).val, by have := (i 1).isLt; change (i 1).val < 2816 at this; omega⟩

/-- The other factor. -/
def up (c : Dev nD) (i : S8192x2816.Idx) : EReal :=
  dot m c (i 0) ⟨2816 + (i 1).val, by have := (i 1).isLt; change (i 1).val < 2816 at this; omega⟩

/-- The product of the gated gate and the other factor. -/
def act (c : Dev nD) (i : S8192x2816.Idx) : EReal :=
  gate m c i * Ideal.div 1 (1 + Ideal.exp (0 - gate m c i)) * up m c i

/-- Where each window's block lies. -/
theorem idx : ∀ t : Fin grid0.N, win0_0.index t = ![t.val % 16, 0] ∧ win0_1.index t = ![t.val / 16, 0]
    ∧ win0_2.index t = ![t.val / 16 + 2, 0] ∧ win0_3.index t = ![t.val % 16, t.val / 16]
    ∧ win0_4.index t = ![t.val % 16, t.val / 16] ∧ win0_5.index t = ![t.val % 16, t.val / 16] := by
  decide +kernel

/-- The gate's array after the run. -/
theorem final3 (c : Dev nD) : (dats m 0 c).arrAt 3 cfg0.N = gate m c := by
  refine (dats m 0 c).arrAt_eq_of_covers 3 _ (by decide +kernel) fun t hf y => ?_
  have ht : t.val < 32 := t.isLt
  blk_simp
  rw [after0_3]
  frame_out
  unfold_payloads
  pointwise [gate, dot]
  blk_point [iblk, V, idx t]

/-- The other factor's. -/
theorem final4 (c : Dev nD) : (dats m 0 c).arrAt 4 cfg0.N = up m c := by
  refine (dats m 0 c).arrAt_eq_of_covers 4 _ (by decide +kernel) fun t hf y => ?_
  have ht : t.val < 32 := t.isLt
  blk_simp
  rw [after0_4]
  frame_out
  unfold_payloads
  pointwise [up, dot]
  blk_point [iblk, V, idx t]

/-- The product's. -/
theorem final5 (c : Dev nD) : (dats m 0 c).arrAt 5 cfg0.N = act m c := by
  refine (dats m 0 c).arrAt_eq_of_covers 5 _ (by decide +kernel) fun t hf y => ?_
  have ht : t.val < 32 := t.isLt
  blk_simp
  rw [after0_5]
  frame_out
  unfold_payloads
  pointwise [act, gate, up, dot]
  blk_point [iblk, V, idx t]

set_option maxHeartbeats 1000000 in
/-- The two programs' results are equal. -/
theorem algebraic : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · run_from Cert.Reference13Ideal.Value.run (F := Ideal) m' g'
    · rw [final3 m c]
      funext i
      idx_vars i
      pointwise [gate, dot]
    · rw [final4 m c]
      funext i
      idx_vars i
      pointwise [up, dot]
    · rw [final5 m c]
      funext i
      idx_vars i
      pointwise [act, gate, up, dot, zero_sub]

end Cert.Proof.Products.SwigluFwd

end
-- ==== Proof.Products.MergeBwd.lean ====
/-
  The gradients of the gated merge of the three branches: the branches' and the gates'.
-/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.UnfoldOut
public import Idealize.ShloMosaic.Lib.Pipeline.ReadBack
public import Idealize.ShloMosaic.Lib.Claim

@[expose] public section

set_option maxRecDepth 16384

noncomputable section

namespace Cert.Proof.Products.MergeBwd

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The four arguments of device `c`. -/
abbrev dy (c : Dev nD) : S8192x1024.Idx → EReal := m ((c : Thread nD τ).loc main_arg0)
abbrev wout (c : Dev nD) : S1024x1024.Idx → EReal := m ((c : Thread nD τ).loc main_arg1)
abbrev proj (c : Dev nD) : S8192x9216.Idx → EReal := m ((c : Thread nD τ).loc main_arg2)
abbrev branch (c : Dev nD) : S3x8192x1024.Idx → EReal := m ((c : Thread nD τ).loc main_arg3)

/-- The gradient of the merged branches. -/
def dm (c : Dev nD) (r : Fin 8192) (k : Fin 1024) : EReal := ∑ j : Fin 1024, dy m c (ix2 r j) * wout m c (ix2 k j)

/-- A gate, from its column among all three. -/
def gt (c : Dev nD) (r : Fin 8192) (n : Fin 3072) : EReal :=
  Ideal.div 1 (1 + Ideal.exp (0 - proj m c (ix2 r ⟨6144 + n.val, by omega⟩)))

/-- The gradient of branch `b`. -/
def dbr (c : Dev nD) (b : Fin 3) (i : S8192x1024.Idx) : EReal :=
  dm m c (i 0) (i 1) * gt m c (i 0) ⟨1024 * b.val + (i 1).val, by have := (i 1).isLt; change (i 1).val < 1024 at this; omega⟩

/-- The gradient of a gate of branch `b`. -/
def dgb (c : Dev nD) (b : Fin 3) (r : Fin 8192) (k : Fin 1024) : EReal :=
  dm m c r k * branch m c (ix3 b r k) * gt m c r ⟨1024 * b.val + k.val, by omega⟩
    * (1 - gt m c r ⟨1024 * b.val + k.val, by omega⟩)

/-- The gates' gradients side by side. -/
def dgl (c : Dev nD) (i : S8192x3072.Idx) : EReal :=
  if h : (i 1).val < 1024 then dgb m c 0 (i 0) ⟨(i 1).val, h⟩
  else if h : (i 1).val - 1024 < 1024 then dgb m c 1 (i 0) ⟨(i 1).val - 1024, h⟩
  else dgb m c 2 (i 0) ⟨(i 1).val - 1024 - 1024, by have := (i 1).isLt; change (i 1).val < 3072 at this; omega⟩

/-- Where each window's block lies. -/
theorem idx : ∀ t : Fin grid0.N, win0_0.index t = ![t.val, 0] ∧ win0_1.index t = ![0, 0] ∧ win0_2.index t = ![t.val, 6]
    ∧ win0_3.index t = ![t.val, 7] ∧ win0_4.index t = ![t.val, 8] ∧ win0_5.index t = ![0, t.val, 0]
    ∧ win0_6.index t = ![t.val, 0] ∧ win0_7.index t = ![t.val, 0] ∧ win0_8.index t = ![t.val, 0]
    ∧ win0_9.index t = ![t.val, 0] := by decide +kernel

/-- The first branch's gradient after the run. -/
theorem final6 (c : Dev nD) : (dats m 0 c).arrAt 6 cfg0.N = dbr m c 0 := by
  refine (dats m 0 c).arrAt_eq_of_covers 6 _ (by decide +kernel) fun t hf y => ?_
  have ht : t.val < 32 := t.isLt
  blk_simp
  rw [after0_6]
  frame_out
  unfold_payloads
  pointwise [dbr, dm, gt]
  blk_point [iblk, V, idx t]

/-- The second's. -/
theorem final7 (c : Dev nD) : (dats m 0 c).arrAt 7 cfg0.N = dbr m c 1 := by
  refine (dats m 0 c).arrAt_eq_of_covers 7 _ (by decide +kernel) fun t hf y => ?_
  have ht : t.val < 32 := t.isLt
  blk_simp
  rw [after0_7]
  unfold_out out0_7
  frame_out
  unfold_payloads
  pointwise [dbr, dm, gt]
  blk_point [iblk, V, idx t]

/-- The third's. -/
theorem final8 (c : Dev nD) : (dats m 0 c).arrAt 8 cfg0.N = dbr m c 2 := by
  refine (dats m 0 c).arrAt_eq_of_covers 8 _ (by decide +kernel) fun t hf y => ?_
  have ht : t.val < 32 := t.isLt
  blk_simp
  rw [after0_8]
  unfold_out out0_8
  frame_out
  unfold_payloads
  pointwise [dbr, dm, gt]
  blk_point [iblk, V, idx t]

/-- The gates' gradient at a row and a column given by their numbers, in the first third. -/
theorem dgl_0 (c : Dev nD) (i : S8192x3072.Idx) (r k : ℕ) (hr : r < 8192) (hk : k < 1024) (h0 : (i 0).val = r)
    (h1 : (i 1).val = k) : dgl m c i = dgb m c 0 ⟨r, hr⟩ ⟨k, hk⟩ := by
  unfold dgl
  rw [dif_pos (by rw [h1]; exact hk)]
  congr 1
  · exact Fin.ext h0
  · exact Fin.ext h1

/-- In the second. -/
theorem dgl_1 (c : Dev nD) (i : S8192x3072.Idx) (r k : ℕ) (hr : r < 8192) (hk : k < 1024) (h0 : (i 0).val = r)
    (h1 : (i 1).val = 1024 + k) : dgl m c i = dgb m c 1 ⟨r, hr⟩ ⟨k, hk⟩ := by
  unfold dgl
  rw [dif_neg (by rw [h1]; omega), dif_pos (by rw [h1]; omega)]
  congr 1
  · exact Fin.ext h0
  · exact Fin.ext (by show (i 1).val - 1024 = k; omega)

/-- In the last. -/
theorem dgl_2 (c : Dev nD) (i : S8192x3072.Idx) (r k : ℕ) (hr : r < 8192) (hk : k < 1024) (h0 : (i 0).val = r)
    (h1 : (i 1).val = 2048 + k) : dgl m c i = dgb m c 2 ⟨r, hr⟩ ⟨k, hk⟩ := by
  unfold dgl
  rw [dif_neg (by rw [h1]; omega), dif_neg (by rw [h1]; omega)]
  congr 1
  · exact Fin.ext h0
  · exact Fin.ext (by show (i 1).val - 1024 - 1024 = k; omega)

/-- The gates' gradient after the run. -/
theorem final9 (c : Dev nD) : (dats m 0 c).arrAt 9 cfg0.N = dgl m c := by
  refine (dats m 0 c).arrAt_eq_of_covers 9 _ (by decide +kernel) fun t hf y => ?_
  have ht : t.val < 32 := t.isLt
  have e0 : ((((cfg0.win 9).blk t).view.emb y) 0 : ℕ) = 256 * t.val + (y 0).val := by
    blk_simp [(idx t).2.2.2.2.2.2.2.2.2]; omega
  have e1 : ((((cfg0.win 9).blk t).view.emb y) 1 : ℕ) = (y 1).val := by
    blk_simp [(idx t).2.2.2.2.2.2.2.2.2]
  generalize ((cfg0.win 9).blk t).view.emb y = i at e0 e1
  rw [after0_9]
  unfold_out out0_9
  canon_tiles x h
  · have g0 : (y 0).val = (x 0).val := h0
    have g1 : (y 1).val = 2048 + (x 1).val := h1
    rw [dgl_2 m c i (256 * t.val + (x 0).val) (x 1).val (by omega) (by omega) (by omega) (by omega)]
    unfold_payloads
    pointwise [dgb, dm, gt]
    blk_point [iblk, V, idx t]
  · have g0 : (y 0).val = (x 0).val := h0
    have g1 : (y 1).val = 1024 + (x 1).val := h1
    rw [dgl_1 m c i (256 * t.val + (x 0).val) (x 1).val (by omega) (by omega) (by omega) (by omega)]
    unfold_payloads
    pointwise [dgb, dm, gt]
    blk_point [iblk, V, idx t]
  · have g0 : (y 0).val = (x 0).val := h0
    have g1 : (y 1).val = (x 1).val := h1
    rw [dgl_0 m c i (256 * t.val + (x 0).val) (x 1).val (by omega) (by omega) (by omega) (by omega)]
    unfold_payloads
    pointwise [dgb, dm, gt]
    blk_point [iblk, V, idx t]

set_option maxHeartbeats 1000000 in
/-- The two programs' results are equal. -/
theorem algebraic : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · run_from Cert.Reference12Ideal.Value.run (F := Ideal) m' g'
    · rw [final6 m c]
      funext i
      idx_vars i
      pointwise [dbr, dm, gt, zero_sub]
      exact mul_comm _ _
    · rw [final7 m c]
      funext i
      idx_vars i
      pointwise [dbr, dm, gt, zero_sub]
      exact mul_comm _ _
    · rw [final8 m c]
      funext i
      idx_vars i
      pointwise [dbr, dm, gt, zero_sub]
      exact mul_comm _ _
    · rw [final9 m c]
      funext i
      idx_vars i
      pointwise [dgl]
      rw [(hagree c).2.2.2]
      by_cases h : i1.val < 1024
      · rw [dif_pos h, dif_pos h]
        simp only [dgb, dm, gt, zero_sub, Fin.val_zero, mul_zero, zero_add, mul_assoc]
      · rw [dif_neg h, dif_neg h]
        by_cases h' : i1.val - 1024 < 1024
        · rw [dif_pos h', dif_pos h']
          have e : 1024 + (i1.val - 1024) = i1.val := by omega
          simp only [dgb, dm, gt, zero_sub, Fin.val_one, mul_one, e, mul_assoc]
        · rw [dif_neg h', dif_neg h']
          have e : 1024 * 2 + (i1.val - 1024 - 1024) = i1.val := by omega
          simp only [dgb, dm, gt, zero_sub, Fin.val_two, e, mul_assoc]

end Cert.Proof.Products.MergeBwd

end
-- ==== Proof.Products.MergeFwd.lean ====
/-
  The gated merge of the three branches and the norms that follow: five arrays.
-/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.UnfoldOut
public import Idealize.ShloMosaic.Lib.Pipeline.ReadBack
public import Idealize.ShloMosaic.Lib.Claim

@[expose] public section

set_option maxRecDepth 16384

noncomputable section

namespace Cert.Proof.Products.MergeFwd

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

/-- The arguments of device `c`. -/
abbrev o0 (c : Dev nD) : S8192x1024.Idx → EReal := m ((c : Thread nD τ).loc main_arg0)
abbrev o1 (c : Dev nD) : S8192x1024.Idx → EReal := m ((c : Thread nD τ).loc main_arg1)
abbrev o2 (c : Dev nD) : S8192x1024.Idx → EReal := m ((c : Thread nD τ).loc main_arg2)
abbrev proj (c : Dev nD) : S8192x9216.Idx → EReal := m ((c : Thread nD τ).loc main_arg3)
abbrev w0 (c : Dev nD) : S1024x1024.Idx → EReal := m ((c : Thread nD τ).loc main_arg4)
abbrev w1 (c : Dev nD) : S1024x1024.Idx → EReal := m ((c : Thread nD τ).loc main_arg5)
abbrev w2 (c : Dev nD) : S1024x1024.Idx → EReal := m ((c : Thread nD τ).loc main_arg6)
abbrev wout (c : Dev nD) : S1024x1024.Idx → EReal := m ((c : Thread nD τ).loc main_arg7)
abbrev xin (c : Dev nD) : S8192x1024.Idx → EReal := m ((c : Thread nD τ).loc main_arg8)
abbrev gpost (c : Dev nD) : S1x1024.Idx → EReal := m ((c : Thread nD τ).loc main_arg9)
abbrev gpre (c : Dev nD) : S1x1024.Idx → EReal := m ((c : Thread nD τ).loc main_arg10)

/-- The three branches' projections. -/
def pb0 (c : Dev nD) (r : Fin 8192) (k : Fin 1024) : EReal := ∑ j : Fin 1024, o0 m c (ix2 r j) * w0 m c (ix2 j k)
def pb1 (c : Dev nD) (r : Fin 8192) (k : Fin 1024) : EReal := ∑ j : Fin 1024, o1 m c (ix2 r j) * w1 m c (ix2 j k)
def pb2 (c : Dev nD) (r : Fin 8192) (k : Fin 1024) : EReal := ∑ j : Fin 1024, o2 m c (ix2 r j) * w2 m c (ix2 j k)

/-- The three one above the other. -/
def pbs (c : Dev nD) (i : S3x8192x1024.Idx) : EReal :=
  if (i 0).val < 1 then pb0 m c (i 1) (i 2) else if (i 0).val - 1 < 1 then pb1 m c (i 1) (i 2) else pb2 m c (i 1) (i 2)

/-- A gate, from its column among all of the projections'. -/
def gt (c : Dev nD) (r : Fin 8192) (n : Fin 9216) : EReal := Ideal.div 1 (1 + Ideal.exp (0 - proj m c (ix2 r n)))

/-- The merged branches. -/
def mrg (c : Dev nD) (i : S8192x1024.Idx) : EReal :=
  gt m c (i 0) ⟨6144 + (i 1).val, by have := (i 1).isLt; change (i 1).val < 1024 at this; omega⟩ * pb0 m c (i 0) (i 1)
    + gt m c (i 0) ⟨6144 + (1024 + (i 1).val), by have := (i 1).isLt; change (i 1).val < 1024 at this; omega⟩ * pb1 m c (i 0) (i 1)
    + gt m c (i 0) ⟨6144 + (2048 + (i 1).val), by have := (i 1).isLt; change (i 1).val < 1024 at this; omega⟩ * pb2 m c (i 0) (i 1)

/-- Their output projection. -/
def yv (c : Dev nD) (i : S8192x1024.Idx) : EReal := ∑ j : Fin 1024, mrg m c (ix2 (i 0) j) * wout m c (ix2 j (i 1))

/-- The reciprocal root of a row's mean square. -/
def nrm (f : S8192x1024.Idx → EReal) (r : Fin 8192) : EReal :=
  Ideal.rsqrt (Ideal.div (∑ k : Fin 1024, f (ix2 r k) * f (ix2 r k)) (Ideal.ofBits .f32 1149239296#32)
    + Ideal.ofBits .f32 897988541#32)

/-- The input with the normed projection added. -/
def x1 (c : Dev nD) (i : S8192x1024.Idx) : EReal := xin m c i + yv m c i * nrm (yv m c) (i 0) * gpost m c (ix2 0 (i 1))

/-- Its norm. -/
def h2 (c : Dev nD) (i : S8192x1024.Idx) : EReal := x1 m c i * nrm (x1 m c) (i 0) * gpre m c (ix2 0 (i 1))

/-- Where each window's block lies. -/
theorem idx : ∀ t : Fin grid0.N, win0_0.index t = ![t.val, 0] ∧ win0_1.index t = ![t.val, 0] ∧ win0_2.index t = ![t.val, 0]
    ∧ win0_3.index t = ![t.val, 6] ∧ win0_4.index t = ![t.val, 7] ∧ win0_5.index t = ![t.val, 8]
    ∧ win0_6.index t = ![0, 0] ∧ win0_7.index t = ![0, 0] ∧ win0_8.index t = ![0, 0] ∧ win0_9.index t = ![0, 0]
    ∧ win0_10.index t = ![t.val, 0] ∧ win0_11.index t = ![0, 0] ∧ win0_12.index t = ![0, 0]
    ∧ win0_13.index t = ![t.val, 0] ∧ win0_14.index t = ![t.val, 0] ∧ win0_15.index t = ![0, t.val, 0]
    ∧ win0_16.index t = ![t.val, 0] ∧ win0_17.index t = ![t.val, 0] := by decide +kernel

/-- The merged branches after the run. -/
theorem final13 (c : Dev nD) : (dats m 0 c).arrAt 13 cfg0.N = mrg m c := by
  refine (dats m 0 c).arrAt_eq_of_covers 13 _ (by decide +kernel) fun t hf y => ?_
  have ht : t.val < 32 := t.isLt
  blk_simp
  rw [after0_13]
  unfold_out out0_13
  frame_out
  unfold_payloads
  pointwise [mrg, pb0, pb1, pb2, gt, zero_add]
  blk_point [iblk, V, idx t]

/-- Their output projection. -/
theorem final14 (c : Dev nD) : (dats m 0 c).arrAt 14 cfg0.N = yv m c := by
  refine (dats m 0 c).arrAt_eq_of_covers 14 _ (by decide +kernel) fun t hf y => ?_
  have ht : t.val < 32 := t.isLt
  blk_simp
  rw [after0_14]
  unfold_out out0_14
  frame_out
  unfold_payloads
  pointwise [yv, mrg, pb0, pb1, pb2, gt, zero_add]
  blk_point [iblk, V, idx t]

/-- The input with the normed projection added. -/
theorem final16 (c : Dev nD) : (dats m 0 c).arrAt 16 cfg0.N = x1 m c := by
  refine (dats m 0 c).arrAt_eq_of_covers 16 _ (by decide +kernel) fun t hf y => ?_
  have ht : t.val < 32 := t.isLt
  blk_simp
  rw [after0_16]
  unfold_out out0_16
  frame_out
  unfold_payloads
  pointwise [x1, nrm, yv, mrg, pb0, pb1, pb2, gt, zero_add]
  blk_point [iblk, V, idx t]

/-- Its norm. -/
theorem final17 (c : Dev nD) : (dats m 0 c).arrAt 17 cfg0.N = h2 m c := by
  refine (dats m 0 c).arrAt_eq_of_covers 17 _ (by decide +kernel) fun t hf y => ?_
  have ht : t.val < 32 := t.isLt
  blk_simp
  rw [after0_17]
  unfold_out out0_17
  frame_out
  unfold_payloads
  pointwise [h2, x1, nrm, yv, mrg, pb0, pb1, pb2, gt, zero_add]
  blk_point [iblk, V, idx t]

/-- The projections at a branch, a row and a column given by their numbers. -/
theorem pbs_0 (c : Dev nD) (i : S3x8192x1024.Idx) (r k : ℕ) (hr : r < 8192) (hk : k < 1024) (h0 : (i 0).val = 0)
    (h1 : (i 1).val = r) (h2 : (i 2).val = k) : pbs m c i = pb0 m c ⟨r, hr⟩ ⟨k, hk⟩ := by
  unfold pbs
  rw [if_pos (by omega)]
  congr 1
  · exact Fin.ext h1
  · exact Fin.ext h2

theorem pbs_1 (c : Dev nD) (i : S3x8192x1024.Idx) (r k : ℕ) (hr : r < 8192) (hk : k < 1024) (h0 : (i 0).val = 1)
    (h1 : (i 1).val = r) (h2 : (i 2).val = k) : pbs m c i = pb1 m c ⟨r, hr⟩ ⟨k, hk⟩ := by
  unfold pbs
  rw [if_neg (by omega), if_pos (by omega)]
  congr 1
  · exact Fin.ext h1
  · exact Fin.ext h2

theorem pbs_2 (c : Dev nD) (i : S3x8192x1024.Idx) (r k : ℕ) (hr : r < 8192) (hk : k < 1024) (h0 : (i 0).val = 2)
    (h1 : (i 1).val = r) (h2 : (i 2).val = k) : pbs m c i = pb2 m c ⟨r, hr⟩ ⟨k, hk⟩ := by
  unfold pbs
  rw [if_neg (by omega), if_neg (by omega)]
  congr 1
  · exact Fin.ext h1
  · exact Fin.ext h2

/-- The projections. -/
theorem final15 (c : Dev nD) : (dats m 0 c).arrAt 15 cfg0.N = pbs m c := by
  refine (dats m 0 c).arrAt_eq_of_covers 15 _ (by decide +kernel) fun t hf y => ?_
  have ht : t.val < 32 := t.isLt
  have e0 : ((((cfg0.win 15).blk t).view.emb y) 0 : ℕ) = (y 0).val := by
    blk_simp [(idx t).2.2.2.2.2.2.2.2.2.2.2.2.2.2.2.1]
  have e1 : ((((cfg0.win 15).blk t).view.emb y) 1 : ℕ) = 256 * t.val + (y 1).val := by
    blk_simp [(idx t).2.2.2.2.2.2.2.2.2.2.2.2.2.2.2.1]; omega
  have e2 : ((((cfg0.win 15).blk t).view.emb y) 2 : ℕ) = (y 2).val := by
    blk_simp [(idx t).2.2.2.2.2.2.2.2.2.2.2.2.2.2.2.1]
  generalize ((cfg0.win 15).blk t).view.emb y = i at e0 e1 e2
  rw [after0_15]
  unfold_out out0_15
  canon_tiles x h
  · have g0 : (y 0).val = 2 + (x 0).val := h0
    have g1 : (y 1).val = (x 1).val := h1
    have g2 : (y 2).val = (x 2).val := h2
    rw [pbs_2 m c i (256 * t.val + (x 1).val) (x 2).val (by omega) (by omega) (by omega) (by omega) (by omega)]
    unfold_payloads
    pointwise [pb2]
    blk_point [iblk, V, idx t]
  · have g0 : (y 0).val = 1 + (x 0).val := h0
    have g1 : (y 1).val = (x 1).val := h1
    have g2 : (y 2).val = (x 2).val := h2
    rw [pbs_1 m c i (256 * t.val + (x 1).val) (x 2).val (by omega) (by omega) (by omega) (by omega) (by omega)]
    unfold_payloads
    pointwise [pb1]
    blk_point [iblk, V, idx t]
  · have g0 : (y 0).val = (x 0).val := h0
    have g1 : (y 1).val = (x 1).val := h1
    have g2 : (y 2).val = (x 2).val := h2
    rw [pbs_0 m c i (256 * t.val + (x 1).val) (x 2).val (by omega) (by omega) (by omega) (by omega) (by omega)]
    unfold_payloads
    pointwise [pb0]
    blk_point [iblk, V, idx t]

set_option maxHeartbeats 4000000 in
/-- The two programs' results are equal. -/
theorem algebraic : Cert.algebraic_Kernel14Ideal_Reference14Ideal (hKernel14Ideal := Cert.Kernel14Ideal.Gen.facts)
    (hReference14Ideal := Cert.Reference14Ideal.Gen.facts) := by
  pair_intro
  · run_from Cert.Kernel14Ideal.Value.run_blocks m g
  · run_from Cert.Reference14Ideal.Value.run (F := Ideal) m' g'
    all_goals obtain ⟨a0, a1, a2, a3, a4, a5, a6, a7, a8, a9, a10⟩ := hagree c
    · rw [final13 m c]
      funext i
      idx_vars i
      pointwise [mrg, pb0, pb1, pb2, gt, zero_sub]
      try simp only [a0, a1, a2, a3, a4, a5, a6, a7, a8, a9, a10]
    · rw [final14 m c]
      funext i
      idx_vars i
      pointwise [yv, mrg, pb0, pb1, pb2, gt, zero_sub]
      try simp only [a0, a1, a2, a3, a4, a5, a6, a7, a8, a9, a10]
    · rw [final15 m c]
      funext i
      idx_vars i
      pointwise [pbs, pb0, pb1, pb2]
      try simp only [a0, a1, a2, a3, a4, a5, a6, a7, a8, a9, a10]
      rfl
    · rw [final16 m c]
      unfold Cert.Reference14Ideal.Value.res_main_v41
      funext i
      idx_vars i
      pointwise [x1, nrm, yv, mrg, pb0, pb1, pb2, gt, zero_sub]
      try simp only [a0, a1, a2, a3, a4, a5, a6, a7, a8, a9, a10]
    · rw [final17 m c]
      unfold Cert.Reference14Ideal.Value.res_main_v59
      funext i
      idx_vars i
      pointwise [h2, x1, nrm, yv, mrg, pb0, pb1, pb2, gt, zero_sub]
      try simp only [a0, a1, a2, a3, a4, a5, a6, a7, a8, a9, a10]

end Cert.Proof.Products.MergeFwd

end
-- ==== Proof.lean ====
/-
  The claims of all programs, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Pre_finite2
public import proofs.«01_k».proof.Proof.Swiglu.Value
public import proofs.«01_k».proof.Proof.Products.DH2
public import proofs.«01_k».proof.Proof.Products.DWGateUp
public import proofs.«01_k».proof.Proof.Products.DWDown
public import proofs.«01_k».proof.Proof.Products.DWProj
public import proofs.«01_k».proof.Proof.Products.DO
public import proofs.«01_k».proof.Proof.Products.DH
public import proofs.«01_k».proof.Proof.Products.ProjIn
public import proofs.«01_k».proof.Proof.Products.FFNDown
public import proofs.«01_k».proof.Proof.Products.DOConv
public import proofs.«01_k».proof.Proof.Products.SwigluFwd
public import proofs.«01_k».proof.Proof.Products.MergeBwd
public import proofs.«01_k».proof.Proof.Products.MergeFwd
public import Idealize.ShloMosaic.Lib.Quiescent

@[expose] public section

noncomputable section

open Idealize.ShloMosaic Idealize.ShloMosaic.TcCoe Idealize.SL Idealize.SL.Sem

namespace Cert.Proof

/-- The reference terminates with its arguments unchanged: the last part of its run. It declares no semaphore. -/
theorem frame_ref : Cert.quiescent_ReferenceIdeal (hReferenceIdeal := Cert.ReferenceIdeal.Gen.facts) := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

/-- Likewise the reference of program 2. -/
theorem frame_ref2 : Cert.quiescent_Reference2Ideal (hReference2Ideal := Cert.Reference2Ideal.Gen.facts) := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

/-- Likewise the reference of program 3. -/
theorem frame_ref3 : Cert.quiescent_Reference3Ideal (hReference3Ideal := Cert.Reference3Ideal.Gen.facts) := fun m g _ =>
  (θ_run Cert.Reference3Ideal.defs _ _).mono (fun r h => ⟨fun c => (h c).2,
      Idealize.ShloMosaic.sem_eq_zero_of_no_sems (by decide) r.2⟩)
    (Cert.Reference3Ideal.Value.run (F := Ideal) m g)

/-- Likewise the reference of program 4. -/
theorem frame_ref4 : Cert.quiescent_Reference4Ideal (hReference4Ideal := Cert.Reference4Ideal.Gen.facts) := fun m g _ =>
  (θ_run Cert.Reference4Ideal.defs _ _).mono (fun r h => ⟨fun c => (h c).2,
      Idealize.ShloMosaic.sem_eq_zero_of_no_sems (by decide) r.2⟩)
    (Cert.Reference4Ideal.Value.run (F := Ideal) m g)

/-- Likewise the reference of program 5. -/
theorem frame_ref5 : Cert.quiescent_Reference5Ideal (hReference5Ideal := Cert.Reference5Ideal.Gen.facts) := fun m g _ =>
  (θ_run Cert.Reference5Ideal.defs _ _).mono (fun r h => ⟨fun c => (h c).2,
      Idealize.ShloMosaic.sem_eq_zero_of_no_sems (by decide) r.2⟩)
    (Cert.Reference5Ideal.Value.run (F := Ideal) m g)

/-- Likewise the reference of program 6. -/
theorem frame_ref6 : Cert.quiescent_Reference6Ideal (hReference6Ideal := Cert.Reference6Ideal.Gen.facts) := fun m g _ =>
  (θ_run Cert.Reference6Ideal.defs _ _).mono (fun r h => ⟨fun c => (h c).2,
      Idealize.ShloMosaic.sem_eq_zero_of_no_sems (by decide) r.2⟩)
    (Cert.Reference6Ideal.Value.run (F := Ideal) m g)

/-- Likewise the reference of program 8. -/
theorem frame_ref8 : Cert.quiescent_Reference8Ideal (hReference8Ideal := Cert.Reference8Ideal.Gen.facts) := fun m g _ =>
  (θ_run Cert.Reference8Ideal.defs _ _).mono (fun r h => ⟨fun c => (h c).2,
      Idealize.ShloMosaic.sem_eq_zero_of_no_sems (by decide) r.2⟩)
    (Cert.Reference8Ideal.Value.run (F := Ideal) m g)

/-- Likewise the reference of program 7. -/
theorem frame_ref7 : Cert.quiescent_Reference7Ideal (hReference7Ideal := Cert.Reference7Ideal.Gen.facts) := fun m g _ =>
  (θ_run Cert.Reference7Ideal.defs _ _).mono (fun r h => ⟨fun c => (h c).2,
      Idealize.ShloMosaic.sem_eq_zero_of_no_sems (by decide) r.2⟩)
    (Cert.Reference7Ideal.Value.run (F := Ideal) m g)

/-- Likewise the reference of program 9. -/
theorem frame_ref9 : Cert.quiescent_Reference9Ideal (hReference9Ideal := Cert.Reference9Ideal.Gen.facts) := fun m g _ =>
  (θ_run Cert.Reference9Ideal.defs _ _).mono (fun r h => ⟨fun c => (h c).2,
      Idealize.ShloMosaic.sem_eq_zero_of_no_sems (by decide) r.2⟩)
    (Cert.Reference9Ideal.Value.run (F := Ideal) m g)

/-- Likewise the reference of program 10. -/
theorem frame_ref10 : Cert.quiescent_Reference10Ideal (hReference10Ideal := Cert.Reference10Ideal.Gen.facts) := fun m g _ =>
  (θ_run Cert.Reference10Ideal.defs _ _).mono (fun r h => ⟨fun c => (h c).2,
      Idealize.ShloMosaic.sem_eq_zero_of_no_sems (by decide) r.2⟩)
    (Cert.Reference10Ideal.Value.run (F := Ideal) m g)

/-- Likewise the reference of program 11. -/
theorem frame_ref11 : Cert.quiescent_Reference11Ideal (hReference11Ideal := Cert.Reference11Ideal.Gen.facts) := fun m g _ =>
  (θ_run Cert.Reference11Ideal.defs _ _).mono (fun r h => ⟨fun c => (h c).2,
      Idealize.ShloMosaic.sem_eq_zero_of_no_sems (by decide) r.2⟩)
    (Cert.Reference11Ideal.Value.run (F := Ideal) m g)

/-- Likewise the reference of program 13. -/
theorem frame_ref13 : Cert.quiescent_Reference13Ideal (hReference13Ideal := Cert.Reference13Ideal.Gen.facts) := fun m g _ =>
  (θ_run Cert.Reference13Ideal.defs _ _).mono (fun r h => ⟨fun c => (h c).2.2.2,
      Idealize.ShloMosaic.sem_eq_zero_of_no_sems (by decide) r.2⟩)
    (Cert.Reference13Ideal.Value.run (F := Ideal) m g)

/-- Likewise the reference of program 12. -/
theorem frame_ref12 : Cert.quiescent_Reference12Ideal (hReference12Ideal := Cert.Reference12Ideal.Gen.facts) := fun m g _ =>
  (θ_run Cert.Reference12Ideal.defs _ _).mono (fun r h => ⟨fun c => (h c).2.2.2.2,
      Idealize.ShloMosaic.sem_eq_zero_of_no_sems (by decide) r.2⟩)
    (Cert.Reference12Ideal.Value.run (F := Ideal) m g)

/-- Likewise the reference of program 14. -/
theorem frame_ref14 : Cert.quiescent_Reference14Ideal (hReference14Ideal := Cert.Reference14Ideal.Gen.facts) := fun m g _ =>
  (θ_run Cert.Reference14Ideal.defs _ _).mono (fun r h => ⟨fun c => (h c).2.2.2.2.2,
      Idealize.ShloMosaic.sem_eq_zero_of_no_sems (by decide) r.2⟩)
    (Cert.Reference14Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel8.Gen.facts, Cert.Kernel8Ideal.Gen.facts, Cert.Reference8Ideal.Gen.facts,
    Cert.Kernel7.Gen.facts, Cert.Kernel7Ideal.Gen.facts, Cert.Reference7Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel13.Gen.facts, Cert.Kernel13Ideal.Gen.facts, Cert.Reference13Ideal.Gen.facts,
    Cert.Kernel12.Gen.facts, Cert.Kernel12Ideal.Gen.facts, Cert.Reference12Ideal.Gen.facts,
    Cert.Kernel14.Gen.facts, Cert.Kernel14Ideal.Gen.facts, Cert.Reference14Ideal.Gen.facts,
    Cert.Pre_finite2.Gen.facts,
    fun m g _ => Cert.Proof.Kernel.frame m g,
    fun m g _ => Cert.Proof.KernelIdeal.frame m g,
    frame_ref,
    fun m g _ => Cert.Kernel2.Gen.frame m g,
    fun m g _ => Cert.Kernel2Ideal.Gen.frame m g,
    fun m g _ => Cert.Kernel2Ideal.Gen.frame m g,
    frame_ref2,
    fun m g _ => frame_ref2 m g trivial,
    fun m g _ => Cert.Kernel3.Gen.frame m g,
    fun m g _ => Cert.Kernel3Ideal.Gen.frame m g,
    frame_ref3,
    fun m g _ => Cert.Kernel4.Gen.frame m g,
    fun m g _ => Cert.Kernel4Ideal.Gen.frame m g,
    frame_ref4,
    fun m g _ => Cert.Kernel5.Gen.frame m g,
    fun m g _ => Cert.Kernel5Ideal.Gen.frame m g,
    frame_ref5,
    fun m g _ => Cert.Kernel6.Gen.frame m g,
    fun m g _ => Cert.Kernel6Ideal.Gen.frame m g,
    frame_ref6,
    fun m g _ => Cert.Kernel8.Gen.frame m g,
    fun m g _ => Cert.Kernel8Ideal.Gen.frame m g,
    frame_ref8,
    fun m g _ => Cert.Kernel7.Gen.frame m g,
    fun m g _ => Cert.Kernel7Ideal.Gen.frame m g,
    frame_ref7,
    fun m g _ => Cert.Kernel9.Gen.frame m g,
    fun m g _ => Cert.Kernel9Ideal.Gen.frame m g,
    frame_ref9,
    fun m g _ => Cert.Kernel10.Gen.frame m g,
    fun m g _ => Cert.Kernel10Ideal.Gen.frame m g,
    frame_ref10,
    fun m g _ => Cert.Kernel11.Gen.frame m g,
    fun m g _ => Cert.Kernel11Ideal.Gen.frame m g,
    frame_ref11,
    fun m g _ => Cert.Kernel13.Gen.frame m g,
    fun m g _ => Cert.Kernel13Ideal.Gen.frame m g,
    frame_ref13,
    fun m g _ => Cert.Kernel12.Gen.frame m g,
    fun m g _ => Cert.Kernel12Ideal.Gen.frame m g,
    frame_ref12,
    fun m g _ => Cert.Kernel14.Gen.frame m g,
    fun m g _ => Cert.Kernel14Ideal.Gen.frame m g,
    frame_ref14,
    IdealRules.named_const.statement Cert.KernelIdeal.κ "mask" .f32 0xF149F2CA#32 ⊥ rfl,
    trivial,
    Cert.Proof.Swiglu.algebraic,
    trivial,
    Cert.Proof.Products.DH2.algebraic,
    trivial,
    Cert.Proof.Products.DWGateUp.algebraic,
    trivial,
    Cert.Proof.Products.DWDown.algebraic,
    trivial,
    Cert.Proof.Products.DWProj.algebraic,
    trivial,
    Cert.Proof.Products.DO.algebraic,
    trivial,
    Cert.Proof.Products.DH.algebraic,
    trivial,
    Cert.Proof.Products.ProjIn.algebraic,
    trivial,
    Cert.Proof.Products.FFNDown.algebraic,
    trivial,
    Cert.Proof.Products.DOConv.algebraic,
    trivial,
    Cert.Proof.Products.SwigluFwd.algebraic,
    trivial,
    Cert.Proof.Products.MergeBwd.algebraic,
    trivial,
    Cert.Proof.Products.MergeFwd.algebraic⟩

end Cert.Proof

end
